-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x256 .f32) (main_arg2 : FVec F S2x256x16x64 .f32) (main_arg3 : FVec F S2x256x16x64 .f32) (main_arg4 : FVec F S256x512 .f32) : IVec S2x256x512 1 × IVec S512x256 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Pre_finite_scores_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  bcast_S_S512x1024 : S_.BroadcastsInDim S512x1024 (![] : Fin 0 → Fin S512x1024.rank)
  bcast_S_S2x256x16x64 : S_.BroadcastsInDim S2x256x16x64 (![] : Fin 0 → Fin S2x256x16x64.rank)

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S2x256x512 1 × IVec S512x1024 1 × IVec S2x256x16x64 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S2x256x16x64 .f32 := Host.absf main_arg2
  let main_cst_1 : FVec F S_ .f32 := constant S_ .f32 0x7F800000#32
  let main_v7 : FVec F S2x256x16x64 .f32 := broadcastInDim S2x256x16x64 ![] bcast_S_S2x256x16x64 main_cst_1
  let main_v8 : IVec S2x256x16x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S16x2x256x64 : Shape := ⟨4, ![16, 2, 256, 64]⟩
abbrev S4x2x256x64 : Shape := ⟨4, ![4, 2, 256, 64]⟩
abbrev S2x256x256 : Shape := ⟨3, ![2, 256, 256]⟩
abbrev S4x2x256x256 : Shape := ⟨4, ![4, 2, 256, 256]⟩
abbrev S2x2 : Shape := ⟨2, ![2, 2]⟩
abbrev S256x256 : Shape := ⟨2, ![256, 256]⟩
abbrev S1x256x512 : Shape := ⟨3, ![1, 256, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1x256x256 : Shape := ⟨3, ![1, 256, 256]⟩
abbrev S1x1x256x256 : Shape := ⟨4, ![1, 1, 256, 256]⟩
abbrev S1x1 : Shape := ⟨2, ![1, 1]⟩

abbrev nBuf : Space → Nat
  | .hbm => 41
  | .vmem => 10
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x16x64, .f32⟩
  | .hbm, ⟨3, _⟩ => ⟨S2x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16x2x256x64, .f32⟩
  | .hbm, ⟨12, _⟩ => ⟨S16x2x256x64, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4x2x256x64, .f32⟩
  | .hbm, ⟨24, _⟩ => ⟨S4x2x256x64, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4x2x256x64, .f32⟩
  | .hbm, ⟨36, _⟩ => ⟨S4x2x256x64, .bf16⟩
  | .hbm, ⟨37, _⟩ => ⟨S2x256x512, .bf16⟩
  | .hbm, ⟨38, _⟩ => ⟨S512x256, .bf16⟩
  | .hbm, ⟨39, _⟩ => ⟨S256x512, .bf16⟩
  | .hbm, ⟨40, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S4x2x256x64, .bf16⟩
  | .local _ .vmem, ⟨3, _⟩ => ⟨S4x2x256x64, .bf16⟩
  | .local _ .vmem, ⟨4, _⟩ => ⟨S256x512, .bf16⟩
  | .local _ .vmem, ⟨5, _⟩ => ⟨S2x256x512, .f32⟩
  | .local _ .vmem, ⟨6, _⟩ => ⟨S2x256x256, .f32⟩
  | .local _ .vmem, ⟨7, _⟩ => ⟨S2x256x256, .f32⟩
  | .local _ .vmem, ⟨8, _⟩ => ⟨S4x2x256x256, .bf16⟩
  | .local _ .vmem, ⟨9, _⟩ => ⟨S4x2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_82 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_81 : BitVec 32 := 1#32
  let v113 : BitVec 32 := Scalar.muli v3 c1_i32_81
  let v114 : BitVec 32 := Scalar.addi c0_i32_82 v113
  v114.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_104 : BitVec 32 := 1#32
  let v133 : BitVec 32 := Scalar.muli v4 c1_i32_104
  let v134 : BitVec 32 := Scalar.addi c0_i32_105 v133
  v134.toNat
def k0_dev5 (d0 : Dev nD) : Nat :=
  let c0_i32_191 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_190 : BitVec 32 := 1#32
  let v240 : BitVec 32 := Scalar.muli v3 c1_i32_190
  let v241 : BitVec 32 := Scalar.addi c0_i32_191 v240
  v241.toNat
def k0_dev6 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_214 : BitVec 32 := 1#32
  let v260 : BitVec 32 := Scalar.muli v4 c1_i32_214
  let v261 : BitVec 32 := Scalar.addi c0_i32_215 v260
  v261.toNat
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_272 : BitVec 32 := 1#32
  let v299 : BitVec 32 := Scalar.muli v4 c1_i32_272
  let v300 : BitVec 32 := Scalar.addi c0_i32_273 v299
  v300.toNat
def k0_dev8 (d0 : Dev nD) : Nat :=
  let c0_i32_331 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_330 : BitVec 32 := 1#32
  let v338 : BitVec 32 := Scalar.muli v3 c1_i32_330
  let v339 : BitVec 32 := Scalar.addi c0_i32_331 v338
  v339.toNat
def k0_dev9 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_388 : BitVec 32 := 1#32
  let v377 : BitVec 32 := Scalar.muli v4 c1_i32_388
  let v378 : BitVec 32 := Scalar.addi c0_i32_389 v377
  v378.toNat
def k0_dev10 (d0 : Dev nD) : Nat :=
  let c0_i32_447 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.subi c3_i32 v2
  let c1_i32_446 : BitVec 32 := 1#32
  let v416 : BitVec 32 := Scalar.muli v3 c1_i32_446
  let v417 : BitVec 32 := Scalar.addi c0_i32_447 v416
  v417.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x16x64, .f32⟩
  | .hbm, ⟨3, _⟩ => ⟨S2x256x16x64, .f32⟩
  | .hbm, ⟨4, _⟩ => ⟨S1024x512, .f32⟩
  | .hbm, ⟨5, _⟩ => ⟨S2x256x1024, .f32⟩
  | .hbm, ⟨6, _⟩ => ⟨S2x256x16x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S2x16x256x256, .f32⟩
  | .hbm, ⟨19, _⟩ => ⟨S_, .f32⟩
  | .hbm, ⟨20, _⟩ => ⟨S2x16x256x256, .f32⟩
  | .hbm, ⟨21, _⟩ => ⟨S2x16x256x256, .f32⟩
  | .hbm, ⟨22, _⟩ => ⟨S1x1x256x256, .i1⟩
  | .hbm, ⟨23, _⟩ => ⟨S_, .f32⟩
  | .hbm, ⟨24, _⟩ => ⟨S_, .f32⟩
  | .hbm, ⟨25, _⟩ => ⟨S2x16x256x256, .i1⟩
  | .hbm, ⟨26, _⟩ => ⟨S2x16x256x256, .f32⟩
  | .hbm, ⟨27, _⟩ => ⟨S2x16x256x256, .f32⟩
  | .hbm, ⟨28, _⟩ => ⟨S_, .f32⟩
  | .hbm, ⟨29, _⟩ => ⟨S2x16x256, .f32⟩
  | .hbm, ⟨30, _⟩ => ⟨S2x16x256x1, .f32⟩
  | .hbm, ⟨31, _⟩ => ⟨S2x16x256x256, .f32⟩
  | .hbm, ⟨32, _⟩ => ⟨S2x16x256x256, .f32⟩
  | .hbm, ⟨33, _⟩ => ⟨S2x16x256x256, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S2x16x256, .f32⟩
  | .hbm, ⟨39, _⟩ => ⟨S2x16x256x1, .f32⟩
  | .hbm, ⟨40, _⟩ => ⟨S_, .f32⟩
  | .hbm, ⟨41, _⟩ => ⟨S_, .f32⟩
  | .hbm, ⟨42, _⟩ => ⟨S2x16x256x1, .i1⟩
  | .hbm, ⟨43, _⟩ => ⟨S2x16x256x1, .f32⟩
  | .hbm, ⟨44, _⟩ => ⟨S2x16x256x1, .f32⟩
  | .hbm, ⟨45, _⟩ => ⟨S2x16x256x256, .f32⟩
  | .hbm, ⟨46, _⟩ => ⟨S2x16x256x256, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S2x16x256x256, .i1⟩
  | .hbm, ⟨51, _⟩ => ⟨S2x16x256x256, .f32⟩
  | .hbm, ⟨52, _⟩ => ⟨S2x16x256x256, .f32⟩
  | .hbm, ⟨53, _⟩ => ⟨S2x16x64x256, .f32⟩
  | .hbm, ⟨54, _⟩ => ⟨S2x256x16x64, .f32⟩
  | .hbm, ⟨55, _⟩ => ⟨S2x256x1024, .f32⟩
  | .hbm, ⟨56, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Talk.lean ====
/- The protocol of the kernel's two-stage exchange among the four devices: who waits on which semaphore, who signals or
   copies onto it, how much, and which contents each landing hands over.

   The kernel computes, per batch entry `b`, two column halves of a partial product (half 0 in buffer `cc0_scratch2`, half 1
   in buffer `cc0_scratch3`) and adds them up over the devices in two stages. A CHANNEL is a triple (half, stage, b): on it
   every device sends slot `2·stage` of the half's buffer into slot `2·stage + 1` of its partner's. The partner is `xp c = 3 - c`
   when half and stage agree, `yp c = c xor 1` otherwise; both are involutions.

   * Barrier cell (regular, not scoped): two units, one from `xp c`, one from `yp c`. The unit from a partner `p` hands `c` the
     four landing slots of `p` that `c` will write, at any contents, and that `p`'s receive cells for them are open.
   * Send cell of a channel: the copy's own completion; it hands the source slot back at the contents sent.
   * Receive cell of a channel: the partner's copy; it hands the landing slot back at the partner's contents.

   Each device sends the four channels of stage 0, then waits for them one by one, sending a channel of stage 1 as soon as
   its stage 0 has been added. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.Value
public import Idealize.ShloMosaic.Lib.VecWindow
public import Idealize.ShloMosaic.Lib.Rounds
public import Idealize.ShloMosaic.Lib.StableHlo
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra: one copy for the staging pipeline, one for the exchange. -/
abbrev UU : Type := URounds (GSem nD τ sig) Unit × URounds (GSem nD τ sig) (Fin 2)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 2)) (MT nD τ sig Unit (Elt F) ℕ UU ℕ) := embR

/-! ## Partners -/

/-- The partner across the first mesh axis. -/
def xp (c : Dev nD) : Dev nD := ⟨3 - c.val, by have := c.isLt; change 3 - c.val < 4; omega⟩
/-- The partner across the second mesh axis. -/
def yp (c : Dev nD) : Dev nD := ⟨if c.val % 2 = 0 then c.val + 1 else c.val - 1, by
  have h : c.val < 4 := c.isLt
  change (if c.val % 2 = 0 then c.val + 1 else c.val - 1) < 4
  split <;> omega⟩

/-- The first partner's first partner is the device. -/
theorem xp_xp (c : Dev nD) : xp (xp c) = c := by revert c; decide
/-- The second partner's second partner is the device. -/
theorem yp_yp (c : Dev nD) : yp (yp c) = c := by revert c; decide

/-- A channel: half, stage, batch entry. -/
abbrev Chan : Type := Fin 2 × Fin 2 × Fin 2

/-- Whom a device sends to, and hears from, on a channel. -/
def partner (ch : Chan) (c : Dev nD) : Dev nD := if ch.1 = ch.2.1 then xp c else yp c
/-- On every channel the partner's partner is the device. -/
theorem partner_partner (ch : Chan) (c : Dev nD) : partner ch (partner ch c) = c := by revert ch c; decide

/-! ## Memrefs and cells -/

/-- The slot buffer of a half. -/
abbrev slots (h : Fin 2) : Memref sig .tc .vmem S4x2x256x256 .bf16 := match h with
  | 0 => Memref.whole cc0_scratch2
  | 1 => Memref.whole cc0_scratch3

/-- A slot lies inside its buffer. -/
theorem slot_inb (k : Fin 4) (b : Fin 2) : ∀ a, (![k.val, b.val, 0, 0] : Fin 4 → ℕ) a + S1x1x256x256.size a ≤ S4x2x256x256.size a := by
  revert k b; decide

/-- The rectangle of slot `k`, entry `b`. -/
abbrev slotR (k : Fin 4) (b : Fin 2) : Rect S4x2x256x256 := Rect.unit (s := S4x2x256x256) ![k.val, b.val, 0, 0] S1x1x256x256.size (slot_inb k b)

/-- Slot `k`, entry `b` of a half's buffer, as the matrix a transfer moves. -/
abbrev slotM (h : Fin 2) (k : Fin 4) (b : Fin 2) : Memref sig .tc .vmem S256x256 .bf16 :=
  ((slots h).slice (slotR k b) (fun _ => rfl)).squeeze S256x256 squeezes_S1x1x256x256_S256x256

/-- The slot a channel sends from. -/
abbrev srcK (st : Fin 2) : Fin 4 := match st with | 0 => 0 | 1 => 2
/-- The slot a channel lands in. -/
abbrev dstK (st : Fin 2) : Fin 4 := match st with | 0 => 1 | 1 => 3

abbrev srcM (ch : Chan) : Memref sig .tc .vmem S256x256 .bf16 := slotM ch.1 (srcK ch.2.1) ch.2.2
abbrev dstM (ch : Chan) : Memref sig .tc .vmem S256x256 .bf16 := slotM ch.1 (dstK ch.2.1) ch.2.2

/-- The send semaphore of a channel. -/
abbrev sendS (ch : Chan) : DmaSem sig := match ch with
  | (0, 0, 0) => 6 | (0, 0, 1) => 7 | (0, 1, 0) => 8 | (0, 1, 1) => 9
  | (1, 0, 0) => 14 | (1, 0, 1) => 15 | (1, 1, 0) => 16 | (1, 1, 1) => 17
/-- The receive semaphore of a channel. -/
abbrev recvS (ch : Chan) : DmaSem sig := match ch with
  | (0, 0, 0) => 10 | (0, 0, 1) => 11 | (0, 1, 0) => 12 | (0, 1, 1) => 13
  | (1, 0, 0) => 18 | (1, 0, 1) => 19 | (1, 1, 0) => 20 | (1, 1, 1) => 21

/-- Which cell of which channel a copy semaphore is: `false` the send cell, `true` the receive cell. -/
def decode (s : DmaSem sig) : Option (Bool × Chan) := match (s : Fin 22) with
  | 6 => some (false, (0, 0, 0)) | 7 => some (false, (0, 0, 1)) | 8 => some (false, (0, 1, 0)) | 9 => some (false, (0, 1, 1))
  | 10 => some (true, (0, 0, 0)) | 11 => some (true, (0, 0, 1)) | 12 => some (true, (0, 1, 0)) | 13 => some (true, (0, 1, 1))
  | 14 => some (false, (1, 0, 0)) | 15 => some (false, (1, 0, 1)) | 16 => some (false, (1, 1, 0)) | 17 => some (false, (1, 1, 1))
  | 18 => some (true, (1, 0, 0)) | 19 => some (true, (1, 0, 1)) | 20 => some (true, (1, 1, 0)) | 21 => some (true, (1, 1, 1))
  | _ => none

/-- A channel's send semaphore decodes to its send cell. -/
theorem decode_send (ch : Chan) : decode (sendS ch) = some (false, ch) := by revert ch; decide
/-- A channel's receive semaphore decodes to its receive cell. -/
theorem decode_recv (ch : Chan) : decode (recvS ch) = some (true, ch) := by revert ch; decide

abbrev barCell (c : Dev nD) : GSem nD τ sig := ((c : Thread nD τ), .reg barrier0)
abbrev sendCell (c : Dev nD) (ch : Chan) : GSem nD τ sig := ((c : Thread nD τ), .dma (sendS ch))
abbrev recvCell (c : Dev nD) (ch : Chan) : GSem nD τ sig := ((c : Thread nD τ), .dma (recvS ch))

/-- The units one slot's copy credits. -/
abbrev N : ℕ := (slotM 0 0 0).view.dmaCredit
/-- A landing credits something. -/
theorem N_pos : 0 < N := View.dmaCredit_pos _ (by decide)
/-- A copy's credit, counted at the landing slot. -/
theorem credit_dst (ch : Chan) : (dstM ch).view.dmaCredit = N := by
  rcases ch with ⟨h, st, b⟩; revert h st b; decide
/-- A copy's credit, counted at the slot sent from. -/
theorem credit_src (ch : Chan) : (srcM ch).view.dmaCredit = N := by
  rcases ch with ⟨h, st, b⟩; revert h st b; decide

/-! ## Slots held at a matrix -/

/-- Slot `k`, entry `b` of half `h` on device `c`, held at the matrix `x`. -/
def slotAt (c : Dev nD) (h : Fin 2) (k : Fin 4) (b : Fin 2) (x : FVec F S256x256 .bf16) : sProp 𝕄 :=
  (slotM h k b).view.loc (c : Thread nD τ) ↦[(slotM h k b).view.set]{fullShare} (slotM h k b).view.rep x
/-- The same slot at any contents. -/
def slotAny (c : Dev nD) (h : Fin 2) (k : Fin 4) (b : Fin 2) : sProp 𝕄 :=
  iprop(∃ f, (slotM h k b).view.loc (c : Thread nD τ) ↦[(slotM h k b).view.set]{fullShare} f)

/-- A slot held at a matrix is held at some contents. -/
theorem slotAt_any (c : Dev nD) (h : Fin 2) (k : Fin 4) (b : Fin 2) (x : FVec F S256x256 .bf16) : slotAt c h k b x ⊢ (slotAny c h k b : sProp 𝕄) := by
  unfold slotAt slotAny
  iintro H
  iexists _
  iexact H

/-- A slot at contents that read `x` is the slot at `x`. -/
theorem slotAt_of_read (c : Dev nD) (h : Fin 2) (k : Fin 4) (b : Fin 2) (x : FVec F S256x256 .bf16) (f : Buf (Elt F) ((slotM h k b).view.loc (c : Thread nD τ)))
    (hf : (slotM h k b).view.read (Elt F) f = x) :
    ((slotM h k b).view.loc (c : Thread nD τ) ↦[(slotM h k b).view.set]{fullShare} f : sProp 𝕄) = slotAt c h k b x := by
  unfold slotAt
  subst hf
  exact pointsTo_rep (c : Thread nD τ) (slotM h k b) f fullShare

/-! ## The schedule -/

section Sched

-- `X`: what each device sends on each channel.
variable (X : Dev nD → Chan → FVec F S256x256 .bf16)

/-- What device `p` hands over for channel `ch` when it signals the device that sends to it there: the landing slot, and that its
    receive cell is open. -/
def lend (p : Dev nD) (ch : Chan) : sProp 𝕄 := iprop(slotAny p ch.1 (dstK ch.2.1) ch.2.2 ∗ reached ER (recvCell p ch) 0)

/-- The unit the partner across the first (`d = 0`) or second axis pays to device `c`'s barrier cell. -/
def barPay (c : Dev nD) (d : Fin 2) : sProp 𝕄 :=
  if d = 0 then iprop(lend (xp c) (0, 0, 0) ∗ lend (xp c) (0, 0, 1) ∗ lend (xp c) (1, 1, 0) ∗ lend (xp c) (1, 1, 1))
  else iprop(lend (yp c) (1, 0, 0) ∗ lend (yp c) (1, 0, 1) ∗ lend (yp c) (0, 1, 0) ∗ lend (yp c) (0, 1, 1))

/-- A completed copy hands its source back. -/
def sendPay (c : Dev nD) (ch : Chan) : sProp 𝕄 := slotAt c ch.1 (srcK ch.2.1) ch.2.2 (X c ch)
/-- A landed copy hands over the landing slot at the sender's contents. -/
def recvPay (c : Dev nD) (ch : Chan) : sProp 𝕄 := slotAt c ch.1 (dstK ch.2.1) ch.2.2 (X (partner ch c) ch)

def dmaPay (c : Dev nD) (s : DmaSem sig) : sProp 𝕄 := match decode s with
  | some (false, ch) => sendPay X c ch
  | some (true, ch) => recvPay X c ch
  | none => iprop(emp)

/-- One round on every cell: two unit duties on a barrier cell, one copy's on a send or receive cell. -/
def talkRd : Rounds.Schedule (GSem nD τ sig) (Fin 2) 𝕄 where
  duties g r := if r = 0 ∧ g.1.2 = .tc then (match g.2 with
    | .reg s => if s = barrier0 then {0, 1} else ∅
    | .dma s => if (decode s).isSome then {0} else ∅) else ∅
  unitless _ := False
  amount g _ _ := match g.2 with | .reg _ => 1 | .dma _ => N
  payload g _ d := match g.2 with | .reg _ => barPay g.1.1 d | .dma s => dmaPay X g.1.1 s
  amount_pos g _ _ _ := by
    rcases g with ⟨t, _ | _⟩
    · exact Nat.one_pos
    · exact N_pos

instance lend_storable (p : Dev nD) (ch : Chan) : BI.Storable (upEmb : UEmb _ 𝕄) (lend p ch : sProp 𝕄) := by
  unfold lend slotAny; infer_instance
instance barPay_storable (c : Dev nD) (d : Fin 2) : BI.Storable (upEmb : UEmb _ 𝕄) (barPay c d : sProp 𝕄) := by
  unfold barPay; split <;> infer_instance
instance sendPay_storable (c : Dev nD) (ch : Chan) : BI.Storable (upEmb : UEmb _ 𝕄) (sendPay X c ch : sProp 𝕄) := by
  unfold sendPay slotAt; infer_instance
instance recvPay_storable (c : Dev nD) (ch : Chan) : BI.Storable (upEmb : UEmb _ 𝕄) (recvPay X c ch : sProp 𝕄) := by
  unfold recvPay slotAt; infer_instance
instance dmaPay_storable (c : Dev nD) (s : DmaSem sig) : BI.Storable (upEmb : UEmb _ 𝕄) (dmaPay X c s : sProp 𝕄) := by
  unfold dmaPay; split <;> infer_instance
instance talkRd_payload_storable (g : GSem nD τ sig) (r : ℕ) (d : Fin 2) :
    BI.Storable (upEmb : UEmb _ 𝕄) ((talkRd (F := F) X).payload g r d) := by
  rcases g with ⟨t, s | s⟩
  · exact barPay_storable t.1 d
  · exact dmaPay_storable X t.1 s

variable (c : Dev nD) (ch : Chan)

/-- A barrier cell has two duties, one of either partner. -/
theorem duties_bar : (talkRd (F := F) X).duties (barCell c) 0 = {0, 1} := by
  show (if 0 = 0 ∧ (c : Thread nD τ).2 = .tc then (if (barrier0 : Sem sig) = barrier0 then ({0, 1} : Finset (Fin 2)) else ∅) else ∅) = _
  rw [if_pos ⟨rfl, rfl⟩, if_pos rfl]
/-- A send cell has one duty. -/
theorem duties_send : (talkRd (F := F) X).duties (sendCell c ch) 0 = {0} := by
  show (if 0 = 0 ∧ (c : Thread nD τ).2 = .tc then (if (decode (sendS ch)).isSome then ({0} : Finset (Fin 2)) else ∅) else ∅) = _
  rw [if_pos ⟨rfl, rfl⟩, decode_send]; rfl
/-- A receive cell has one duty. -/
theorem duties_recv : (talkRd (F := F) X).duties (recvCell c ch) 0 = {0} := by
  show (if 0 = 0 ∧ (c : Thread nD τ).2 = .tc then (if (decode (recvS ch)).isSome then ({0} : Finset (Fin 2)) else ∅) else ∅) = _
  rw [if_pos ⟨rfl, rfl⟩, decode_recv]; rfl
/-- No cell has a duty after round 0. -/
theorem duties_later (g : GSem nD τ sig) : ∀ r, 1 ≤ r → (talkRd (F := F) X).duties g r = ∅ :=
  fun r hr => if_neg (fun h => by omega)

/-- A barrier duty pays one unit. -/
theorem amount_bar (d : Fin 2) : (talkRd (F := F) X).amount (barCell c) 0 d = 1 := rfl
/-- A send duty pays a copy's credit. -/
theorem amount_send (d : Fin 2) : (talkRd (F := F) X).amount (sendCell c ch) 0 d = N := rfl
/-- A receive duty pays a copy's credit. -/
theorem amount_recv (d : Fin 2) : (talkRd (F := F) X).amount (recvCell c ch) 0 d = N := rfl

/-- A barrier cell expects two units. -/
theorem expect_bar : (talkRd (F := F) X).expect (barCell c) 0 = 2 := by
  unfold Schedule.expect Schedule.amountOf; rw [duties_bar]; rfl
/-- A send cell expects a copy's credit. -/
theorem expect_send : (talkRd (F := F) X).expect (sendCell c ch) 0 = N := by
  unfold Schedule.expect Schedule.amountOf; rw [duties_send, Finset.sum_singleton, amount_send]
/-- A receive cell expects a copy's credit. -/
theorem expect_recv : (talkRd (F := F) X).expect (recvCell c ch) 0 = N := by
  unfold Schedule.expect Schedule.amountOf; rw [duties_recv, Finset.sum_singleton, amount_recv]

/-- What a barrier duty hands over. -/
theorem payload_bar (d : Fin 2) : (talkRd (F := F) X).payload (barCell c) 0 d = barPay c d := rfl
/-- What a send duty hands over. -/
theorem payload_send (d : Fin 2) : (talkRd (F := F) X).payload (sendCell c ch) 0 d = sendPay X c ch := by
  show dmaPay X c (sendS ch) = _
  unfold dmaPay; rw [decode_send]
/-- What a receive duty hands over. -/
theorem payload_recv (d : Fin 2) : (talkRd (F := F) X).payload (recvCell c ch) 0 d = recvPay X c ch := by
  show dmaPay X c (recvS ch) = _
  unfold dmaPay; rw [decode_recv]

/-- What a wait on a barrier cell takes: both partners' payloads. -/
theorem rest_bar : bigSep ((talkRd (F := F) X).duties (barCell c) 0 \ ∅) (fun u => (talkRd (F := F) X).payload (barCell c) 0 u)
    = iprop(barPay c 0 ∗ barPay c 1) := by
  rw [Finset.sdiff_empty, duties_bar, bigSep_insert (by decide), bigSep_singleton, payload_bar, payload_bar]; rfl
/-- What a wait on a send cell takes: the slot sent from. -/
theorem rest_send : bigSep ((talkRd (F := F) X).duties (sendCell c ch) 0 \ ∅) (fun u => (talkRd (F := F) X).payload (sendCell c ch) 0 u) = sendPay X c ch := by
  rw [Finset.sdiff_empty, duties_send, bigSep_singleton, payload_send]
/-- What a wait on a receive cell takes: the landing with its contents. -/
theorem rest_recv : bigSep ((talkRd (F := F) X).duties (recvCell c ch) 0 \ ∅) (fun u => (talkRd (F := F) X).payload (recvCell c ch) 0 u) = recvPay X c ch := by
  rw [Finset.sdiff_empty, duties_recv, bigSep_singleton, payload_recv]

/-- A cell whose round is over is closed, its counter at zero. -/
theorem close (κ : ℕ) (g : GSem nD τ sig) :
    iprop(cellInv ER (talkRd X) κ g ∗ atPos ER g (0 + 1) ∅ 0) ⊢ (|={Set.univ}=> semVal g 0 : sProp 𝕄) :=
  Rounds.cell_close ER (talkRd X) (Set.mem_univ κ) id (duties_later X g)

end Sched

/-! ## What a device owes; the levels -/

/-- The receive credits a device owes on the channels of a list, the first of which it pays first. -/
def owedOn (c : Dev nD) : List Chan → CellTallies nD τ sig Unit
  | [] => 0
  | ch :: l => owedOn c l + tallyAt (recvCell (partner ch c) ch) () N

/-- The channels in the order in which a device sends on them. -/
abbrev order : List Chan := [(0, 0, 0), (1, 0, 0), (0, 0, 1), (1, 0, 1), (0, 1, 0), (1, 1, 0), (0, 1, 1), (1, 1, 1)]

/-- What a device owes at launch: every channel's receive credit, and a barrier unit to either partner. -/
def O₀ (c : Dev nD) : CellTallies nD τ sig Unit := owedOn c order + tallyAt (barCell (yp c)) () 1 + tallyAt (barCell (xp c)) () 1

def L (g : GSem nD τ sig) : Finset Unit := if g.1.2 = .tc then {()} else ∅
/-- Barrier cells at 1, receive cells at 2 (stage 0) and 3 (stage 1), the rest at 0. -/
def lv (g : GSem nD τ sig) (_ : Unit) : ℕ := match g.2 with
  | .reg s => if s = barrier0 then 1 else 0
  | .dma s => match decode s with
    | some (true, ch) => 2 + ch.2.1.val
    | _ => 0

/-- A thread that is not the device's core owes and waits for nothing. -/
theorem L_of_ne (g : GSem nD τ sig) (h : g.1.2 ≠ .tc) : L g = ∅ := if_neg h
/-- Every cell of the device's core has the one label. -/
theorem L_tc (c : Dev nD) (sm : SemLoc sig) : L ((c : Thread nD τ), sm) = {()} := if_pos rfl

/-- A receive cell's level, by its stage. -/
theorem lv_recv (c : Dev nD) (ch : Chan) (u : Unit) : lv (recvCell c ch) u = 2 + ch.2.1.val := by
  show (match decode (recvS ch) with | some (true, ch) => 2 + ch.2.1.val | _ => 0) = _
  rw [decode_recv]
/-- A send cell's level. -/
theorem lv_send (c : Dev nD) (ch : Chan) (u : Unit) : lv (sendCell c ch) u = 0 := by
  show (match decode (sendS ch) with | some (true, ch) => 2 + ch.2.1.val | _ => 0) = _
  rw [decode_send]
/-- A barrier cell's level. -/
theorem lv_bar (c : Dev nD) (u : Unit) : lv (barCell c) u = 1 := by
  show (if (barrier0 : Sem sig) = barrier0 then 1 else 0) = 1
  exact if_pos rfl

/-- What is owed on a list of channels is owed at their receive cells. -/
theorem owedOn_pos (c : Dev nD) (g : GSem nD τ sig) (u : Unit) : ∀ l : List Chan, 0 < owedOn c l g u → ∃ ch ∈ l, g = recvCell (partner ch c) ch
  | [], h => absurd h (Nat.lt_irrefl 0)
  | ch :: l, h => by
    have h' : 0 < owedOn c l g u + tallyAt (recvCell (partner ch c) ch) () N g u := h
    by_cases hl : 0 < owedOn c l g u
    · obtain ⟨d, hd, he⟩ := owedOn_pos c g u l hl
      exact ⟨d, List.mem_cons_of_mem _ hd, he⟩
    · refine ⟨ch, List.mem_cons_self, ?_⟩
      have h2 : 0 < tallyAt (recvCell (partner ch c) ch) () N g u := by omega
      rw [tallyAt_apply] at h2
      by_contra hne
      rw [if_neg (fun hh => hne hh.1)] at h2
      exact absurd h2 (Nat.lt_irrefl 0)

/-- A wait on a cell below every channel of a list is allowed while their credits are owed. -/
theorem mayWait_on (c : Dev nD) (sm : SemLoc sig) (l : List Chan) (n : ℕ) (hs : lv ((c : Thread nD τ), sm) () = n)
    (hl : ∀ ch ∈ l, n < 2 + ch.2.1.val) :
    (levAts L lv : sProp 𝕄) ⊢ MayWait (c : Thread nD τ) sm () (owedOn c l) :=
  MayOwe.of_cut (L := L) (lev := lv) n (fun p hp => by rw [Finset.mem_singleton.mp hp, L_tc]; exact Finset.mem_singleton_self _)
    (fun g u hg => by
      obtain ⟨ch, _, rfl⟩ := owedOn_pos c g u l hg
      rw [L_tc]; exact Finset.mem_singleton_self _)
    (fun p hp => by rw [Finset.mem_singleton.mp hp]; exact hs.le)
    (fun g u hg => by
      obtain ⟨ch, hch, rfl⟩ := owedOn_pos c g u l hg
      rw [lv_recv]; exact hl ch hch)

end Cert.KernelIdealProof

end
-- ==== Proof.KernelIdeal.Steps.lean ====
/- The steps of the exchange, each as a rule for the operation that takes it: the two signals, the barrier wait, a channel's
   send, and the waits for its own copy and for the partner's. A channel goes through the states `idle`, `sent`, `half`, `done`. -/
module

public import proofs.«01_k».proof.Proof.KernelIdeal.Talk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {α : Type}

abbrev 𝒱₀ : Variants := Variants.none

variable (X : Dev nD → Chan → FVec F S256x256 .bf16)

/-! ## What every device knows -/

/-- The cells' invariants, at the names `K` they were allocated at, and that round 0 of every barrier cell is open. -/
def records (K : GSem nD τ sig → ℕ) : sProp 𝕄 :=
  bigSep Finset.univ fun c : Dev nD => iprop((cellInv ER (talkRd X) (K (barCell c)) (barCell c) ∗ reached ER (barCell c) 0)
    ∗ bigSep Finset.univ fun ch : Chan => iprop(cellInv ER (talkRd X) (K (sendCell c ch)) (sendCell c ch)
        ∗ cellInv ER (talkRd X) (K (recvCell c ch)) (recvCell c ch)))

instance records_persistent (K : GSem nD τ sig → ℕ) : BI.Persistent (records X K) := by unfold records; infer_instance

/-- One device's part of the records. -/
theorem records_at (K : GSem nD τ sig → ℕ) (c : Dev nD) : records X K ⊢ (iprop((cellInv ER (talkRd X) (K (barCell c)) (barCell c) ∗ reached ER (barCell c) 0)
    ∗ bigSep Finset.univ fun ch : Chan => iprop(cellInv ER (talkRd X) (K (sendCell c ch)) (sendCell c ch)
        ∗ cellInv ER (talkRd X) (K (recvCell c ch)) (recvCell c ch))) : sProp 𝕄) := by
  unfold records
  exact bigSep_elim (Finset.mem_univ c)

/-- A barrier cell's invariant is among the records. -/
theorem records_bar (K : GSem nD τ sig → ℕ) (c : Dev nD) : records X K ⊢ (cellInv ER (talkRd X) (K (barCell c)) (barCell c) : sProp 𝕄) := by
  iintro H
  ihave H' := (records_at X K c) $$ H
  icases H' with ⟨⟨H, -⟩, -⟩
  iexact H
/-- That round 0 of a barrier cell is open is among the records. -/
theorem records_reached (K : GSem nD τ sig → ℕ) (c : Dev nD) : records X K ⊢ (reached ER (barCell c) 0 : sProp 𝕄) := by
  iintro H
  ihave H' := (records_at X K c) $$ H
  icases H' with ⟨⟨-, H⟩, -⟩
  iexact H
/-- One channel's part of a device's records. -/
theorem chan_at (K : GSem nD τ sig → ℕ) (c : Dev nD) (ch : Chan) : (bigSep Finset.univ fun ch : Chan => (iprop(cellInv ER (talkRd X) (K (sendCell c ch)) (sendCell c ch)
        ∗ cellInv ER (talkRd X) (K (recvCell c ch)) (recvCell c ch)) : sProp 𝕄)) ⊢ (iprop(cellInv ER (talkRd X) (K (sendCell c ch)) (sendCell c ch)
        ∗ cellInv ER (talkRd X) (K (recvCell c ch)) (recvCell c ch)) : sProp 𝕄) := bigSep_elim (Finset.mem_univ ch)
/-- The invariants of a channel's two cells are among the records. -/
theorem records_chan (K : GSem nD τ sig → ℕ) (c : Dev nD) (ch : Chan) : records X K ⊢ (iprop(cellInv ER (talkRd X) (K (sendCell c ch)) (sendCell c ch)
        ∗ cellInv ER (talkRd X) (K (recvCell c ch)) (recvCell c ch)) : sProp 𝕄) := by
  iintro H
  ihave H' := (records_at X K c) $$ H
  icases H' with ⟨-, H⟩
  iapply (chan_at X K c ch)
  iexact H
/-- A send cell's invariant is among the records. -/
theorem records_send (K : GSem nD τ sig → ℕ) (c : Dev nD) (ch : Chan) : records X K ⊢ (cellInv ER (talkRd X) (K (sendCell c ch)) (sendCell c ch) : sProp 𝕄) := by
  iintro H
  ihave H' := (records_chan X K c ch) $$ H
  icases H' with ⟨H, -⟩
  iexact H
/-- A receive cell's invariant is among the records. -/
theorem records_recv (K : GSem nD τ sig → ℕ) (c : Dev nD) (ch : Chan) : records X K ⊢ (cellInv ER (talkRd X) (K (recvCell c ch)) (recvCell c ch) : sProp 𝕄) := by
  iintro H
  ihave H' := (records_chan X K c ch) $$ H
  icases H' with ⟨-, H⟩
  iexact H

/-! ## A channel's states -/

/-- Before the send: at the start of both cells, with the tokens of the two duties its copy pays and the credit for the partner's copy. -/
def idle (c : Dev nD) (ch : Chan) : sProp 𝕄 :=
  iprop(atPos ER (sendCell c ch) 0 ∅ 0 ∗ atPos ER (recvCell c ch) 0 ∅ 0 ∗ reached ER (sendCell c ch) 0
    ∗ dutyTok ER (sendCell c ch) 0 0 ∗ dutyTok ER (recvCell (partner ch c) ch) 0 0 ∗ cred (tallyAt (recvCell c ch) () N))
/-- After the send: both waits to come. -/
def sent (c : Dev nD) (ch : Chan) : sProp 𝕄 :=
  iprop(atPos ER (sendCell c ch) 0 ∅ 0 ∗ atPos ER (recvCell c ch) 0 ∅ 0 ∗ cred (tallyAt (sendCell c ch) () N) ∗ cred (tallyAt (recvCell c ch) () N))
/-- After the wait for the own copy. -/
def half (c : Dev nD) (ch : Chan) : sProp 𝕄 :=
  iprop(atPos ER (sendCell c ch) (0 + 1) ∅ 0 ∗ atPos ER (recvCell c ch) 0 ∅ 0 ∗ cred (tallyAt (recvCell c ch) () N))
/-- After both waits. -/
def done (c : Dev nD) (ch : Chan) : sProp 𝕄 :=
  iprop(atPos ER (sendCell c ch) (0 + 1) ∅ 0 ∗ atPos ER (recvCell c ch) (0 + 1) ∅ 0)

/-- What the device owes, over any waits recorded. -/
def owing (c : Dev nD) (O : CellTallies nD τ sig Unit) : sProp 𝕄 := iprop(∃ W, owes (c : Thread nD τ) O W)

/-- The copy of a channel, landing: the landing slot written with the source slot's matrix holds that matrix. -/
theorem landing (d : Dev nD) (ch : Chan) (fd : Buf (Elt F) ((dstM ch).view.loc (d : Thread nD τ))) (x : FVec F S256x256 .bf16) :
    ((dstM ch).view.loc (d : Thread nD τ) ↦[(dstM ch).view.set]{fullShare} ((dstM ch).view.write (Elt F) fd
        ((srcM ch).view.read (Elt F) ((srcM ch).view.rep x)) Finset.univ) : sProp 𝕄)
      = slotAt d ch.1 (dstK ch.2.1) ch.2.2 x := by
  refine slotAt_of_read d ch.1 (dstK ch.2.1) ch.2.2 x _ ?_
  rw [View.read_rep]
  exact View.read_write_univ _ _

section Steps

variable (K : GSem nD τ sig → ℕ) (c : Dev nD)

/-- Sending on a channel: the source slot, the partner's landing slot and the channel's tokens go into the copy. -/
theorem send_step (d : Dev nD) (ch : Chan) (l : List Chan) (hd : d = partner ch c)
    {hsrc : (srcM ch).view.WordExact} {hdst : (dstM ch).view.WordExact}
    {hsem : DmaTarget.Typed (nD := nD) (τ := τ) (p := .tc) .vmem (.dma (recvS ch)) (.remote (Dev.tc d) (dstM ch) (.dma (sendS ch)))}
    (k : PUnit → Prog (TpuEff nD τ sig (Elt F) Λ₀ .tc) α) (Q : α → sProp 𝕄) :
    iprop(records X K ∗ idle c ch ∗ lend (partner ch c) ch ∗ slotAt c ch.1 (srcK ch.2.1) ch.2.2 (X c ch) ∗ owing c (owedOn c (ch :: l)))
      ⊢ iprop((iprop(sent c ch ∗ owing c (owedOn c l)) -∗ wp frame (wpE (defs₀ (F := F)) 𝒱₀ c none) Set.univ (k ⟨⟩) Q)
          -∗ wp frame (wpE (defs₀ (F := F)) 𝒱₀ c none) Set.univ
              (.op (.enqueueDma (srcM ch) (.remote (Dev.tc d) (dstM ch) (.dma (sendS ch))) (.dma (recvS ch)) hsrc hdst hsem) k) Q) := by
  subst hd
  unfold idle lend slotAny owing
  iintro ⟨#HR, ⟨HatS, HatV, #HrS, HtS, HtN, HcV⟩, ⟨⟨%fd, Hd⟩, #HrN⟩, Hs, ⟨%W, HO⟩⟩ Hk
  ihave #HIs := (records_send X K c ch) $$ HR
  ihave #HIr := (records_recv X K (partner ch c) ch) $$ HR
  unfold slotAt
  iapply (Rounds.wp_send_pointsTo 𝒱₀ ER (talkRd X) (c : Thread nD τ) none (c' := (partner ch c : Thread nD τ)) (src := srcM ch) (dst := dstM ch)
      (sS := .dma (sendS ch)) (sem := .dma (recvS ch)) (q := fullShare) (fs := (srcM ch).view.rep (X c ch)) (κ₁ := K (sendCell c ch)) (κ₂ := K (recvCell (partner ch c) ch))
      (r₁ := 0) (r₂ := 0) (d₁ := 0) (d₂ := 0) (fd := fd)
      (by rw [duties_send]; exact Finset.mem_singleton_self _) (by rw [duties_recv]; exact Finset.mem_singleton_self _)
      () () N (credit_dst ch) (amount_send X c ch 0) (amount_recv X (partner ch c) ch 0) (owedOn c l) rfl (W := W)
      (by rw [payload_send]; unfold sendPay slotAt; exact BI.Entails.refl _)
      (by rw [payload_recv, landing]; unfold recvPay; rw [partner_partner])) $$ [Hs Hd HO HtS HtN]
  · isplitr; · iexact HIs
    isplitr; · iexact HIr
    isplitl [Hs]; · iexact Hs
    isplitl [Hd]; · iexact Hd
    isplitl [HO]; · iexact HO
    isplitl [HtS]; · iexact HtS
    isplitr; · iexact HrS
    isplitl [HtN]; · iexact HtN
    iexact HrN
  iintro ⟨HcS, HO⟩
  iapply Hk
  unfold sent
  isplitl [HatS HatV HcS HcV]
  · isplitl [HatS]; · iexact HatS
    isplitl [HatV]; · iexact HatV
    isplitl [HcS] <;> iassumption
  iexists W
  iexact HO

/-- Waiting for the own copy on a channel: the source slot comes back. -/
theorem wait_send_step (ch : Chan) (l : List Chan)
    {hsrc : (dstM ch).view.WordExact} {hdst : (srcM ch).view.WordExact}
    (k : PUnit → Prog (TpuEff nD τ sig (Elt F) Λ₀ .tc) α) (Q : α → sProp 𝕄) :
    iprop(records X K ∗ levAts L lv ∗ sent c ch ∗ owing c (owedOn c l))
      ⊢ iprop((iprop(half c ch ∗ slotAt c ch.1 (srcK ch.2.1) ch.2.2 (X c ch) ∗ owing c (owedOn c l))
            -∗ wp frame (wpE (defs₀ (F := F)) 𝒱₀ c none) Set.univ (k ⟨⟩) Q)
          -∗ wp frame (wpE (defs₀ (F := F)) 𝒱₀ c none) Set.univ
              (.op (.waitDma2 (sendS ch) (dstM ch) (srcM ch) hsrc hdst) k) Q) := by
  unfold sent owing
  iintro ⟨#HR, #Hlev, ⟨HatS, HatV, HcS, HcV⟩, ⟨%W, HO⟩⟩ Hk
  ihave #HIs := (records_send X K c ch) $$ HR
  iapply (Rounds.wp_wait_rest_token 𝒱₀ ER (talkRd X) (c : Thread nD τ) none (κ := K (sendCell c ch))
      (wpE_waitDma2_eq 𝒱₀ (c : Thread nD τ) none Set.univ) (Set.mem_univ _) () (O := owedOn c l) (W := W) (R := 0) (m := 0) (T := ∅)
      ((Nat.zero_add _).trans ((credit_src ch).trans (expect_send X c ch).symm))) $$ [HcS HO HatS]
  · isplitr; · iexact HIs
    isplitl [HcS]; · rw [show (srcM ch).view.dmaCredit = N from credit_src ch]; iexact HcS
    isplitl [HO]; · iexact HO
    isplitr; · iapply (mayWait_on c (.dma (sendS ch)) l 0 (lv_send c ch ()) (fun _ _ => by omega)); iexact Hlev
    iexact HatS
  iintro ⟨HO, HatS, -, Hpay⟩
  ihave Hp := (Entails.of_eq (rest_send X c ch)) $$ Hpay
  iapply Hk
  unfold half sendPay
  isplitl [HatS HatV HcV]
  · isplitl [HatS]; · iexact HatS
    isplitl [HatV] <;> iassumption
  isplitl [Hp]; · iexact Hp
  iexists _
  iexact HO

/-- Waiting for the partner's copy on a channel: the landing slot comes back at what the partner sent. -/
theorem wait_recv_step (ch : Chan) (l : List Chan) (hl : ∀ ch' ∈ l, 2 + ch.2.1.val < 2 + ch'.2.1.val)
    {hsrc : (srcM ch).view.WordExact} {hdst : (dstM ch).view.WordExact}
    (k : PUnit → Prog (TpuEff nD τ sig (Elt F) Λ₀ .tc) α) (Q : α → sProp 𝕄) :
    iprop(records X K ∗ levAts L lv ∗ half c ch ∗ owing c (owedOn c l))
      ⊢ iprop((iprop(done c ch ∗ slotAt c ch.1 (dstK ch.2.1) ch.2.2 (X (partner ch c) ch) ∗ owing c (owedOn c l))
            -∗ wp frame (wpE (defs₀ (F := F)) 𝒱₀ c none) Set.univ (k ⟨⟩) Q)
          -∗ wp frame (wpE (defs₀ (F := F)) 𝒱₀ c none) Set.univ
              (.op (.waitDma2 (recvS ch) (srcM ch) (dstM ch) hsrc hdst) k) Q) := by
  unfold half owing
  iintro ⟨#HR, #Hlev, ⟨HatS, HatV, HcV⟩, ⟨%W, HO⟩⟩ Hk
  ihave #HIr := (records_recv X K c ch) $$ HR
  iapply (Rounds.wp_wait_rest_token 𝒱₀ ER (talkRd X) (c : Thread nD τ) none (κ := K (recvCell c ch))
      (wpE_waitDma2_eq 𝒱₀ (c : Thread nD τ) none Set.univ) (Set.mem_univ _) () (O := owedOn c l) (W := W) (R := 0) (m := 0) (T := ∅)
      ((Nat.zero_add _).trans ((credit_dst ch).trans (expect_recv X c ch).symm))) $$ [HcV HO HatV]
  · isplitr; · iexact HIr
    isplitl [HcV]; · rw [show (dstM ch).view.dmaCredit = N from credit_dst ch]; iexact HcV
    isplitl [HO]; · iexact HO
    isplitr; · iapply (mayWait_on c (.dma (recvS ch)) l _ (lv_recv c ch ()) hl); iexact Hlev
    iexact HatV
  iintro ⟨HO, HatV, -, Hpay⟩
  ihave Hp := (Entails.of_eq (rest_recv X c ch)) $$ Hpay
  iapply Hk
  unfold done recvPay
  isplitl [HatS HatV]
  · isplitl [HatS] <;> iassumption
  isplitl [Hp]; · iexact Hp
  iexists _
  iexact HO

/-- The signal to a partner: it takes what the partner's barrier round is owed by this device. -/
theorem signal_step (p d : Dev nD) (u : Fin 2) (O : CellTallies nD τ sig Unit) (hd : d = p)
    (k : PUnit → Prog (TpuEff nD τ sig (Elt F) Λ₀ .tc) α) (Q : α → sProp 𝕄) :
    iprop(records X K ∗ dutyTok ER (barCell p) 0 u ∗ barPay p u ∗ owing c (O + tallyAt (barCell p) () 1))
      ⊢ iprop((owing c O -∗ wp frame (wpE (defs₀ (F := F)) 𝒱₀ c none) Set.univ (k ⟨⟩) Q)
          -∗ wp frame (wpE (defs₀ (F := F)) 𝒱₀ c none) Set.univ (.op (.semSignal (Dev.tc d) barrier0 1) k) Q) := by
  subst hd
  unfold owing
  iintro ⟨#HR, Ht, Hp, ⟨%W, HO⟩⟩ Hk
  ihave #HI := (records_bar X K d) $$ HR
  ihave #Hr := (records_reached X K d) $$ HR
  iapply (Rounds.wp_signal 𝒱₀ ER (talkRd X) (c : Thread nD τ) none (dst := (d : Thread nD τ)) (sem := barrier0) (r := 0) (d := u) (κ := K (barCell d))
      (by rw [duties_bar]; revert u; decide) (amount_bar X d u) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W
  iexact HO

/-- The barrier wait: both partners' landing slots come with the two units. -/
theorem barrier_step (l : List Chan)
    (k : PUnit → Prog (TpuEff nD τ sig (Elt F) Λ₀ .tc) α) (Q : α → sProp 𝕄) :
    iprop(records X K ∗ levAts L lv ∗ atPos ER (barCell c) 0 ∅ 0 ∗ cred (tallyAt (barCell c) () 2) ∗ owing c (owedOn c l))
      ⊢ iprop((iprop(atPos ER (barCell c) (0 + 1) ∅ 0 ∗ barPay c 0 ∗ barPay c 1 ∗ owing c (owedOn c l))
            -∗ wp frame (wpE (defs₀ (F := F)) 𝒱₀ c none) Set.univ (k ⟨⟩) Q)
          -∗ wp frame (wpE (defs₀ (F := F)) 𝒱₀ c none) Set.univ (.op (.semWait barrier0 2) k) Q) := by
  unfold owing
  iintro ⟨#HR, #Hlev, Hat, Hc, ⟨%W, HO⟩⟩ Hk
  ihave #HI := (records_bar X K c) $$ HR
  iapply (Rounds.wp_wait_rest_token 𝒱₀ ER (talkRd X) (c : Thread nD τ) none (κ := K (barCell c))
      (wpE_semWait_eq 𝒱₀ (c : Thread nD τ) none Set.univ) (Set.mem_univ _) () (O := owedOn c l) (W := W) (R := 0) (m := 0) (T := ∅)
      ((Nat.zero_add 2).trans (expect_bar X c).symm)) $$ [Hc HO Hat]
  · isplitr; · iexact HI
    isplitl [Hc]; · iexact Hc
    isplitl [HO]; · iexact HO
    isplitr; · iapply (mayWait_on c (.reg barrier0) l 1 (lv_bar c ()) (fun _ _ => by omega)); iexact Hlev
    iexact Hat
  iintro ⟨HO, Hat, -, Hpay⟩
  ihave Hp := (Entails.of_eq (rest_bar X c)) $$ Hpay
  icases Hp with ⟨H0, H1⟩
  iapply Hk
  isplitl [Hat]; · iexact Hat
  isplitl [H0]; · iexact H0
  isplitl [H1]; · iexact H1
  iexists _
  iexact HO

end Steps

end Cert.KernelIdealProof

end
-- ==== Proof.KernelIdeal.Mem.lean ====
/- Loads and stores of the accumulators and of the slots, each as a rule over `accAt` and `slotAt`. -/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {α : Type}

/-! ## A slice of a buffer, squeezed -/

/-- A rectangle of a buffer and the slice squeezed from it have the same places. -/
theorem sq_set {s s' : Shape} {e : EltTy} (M : Memref sig .tc .vmem s e) (r : Rect s) (hr : ∀ a, r.stride a = 1) (hq : r.shape.Squeezes s') :
    (M.access r).set = ((M.slice r hr).squeeze s' hq).view.set := (View.set_reshape _ _).symm

/-- A rectangle read where the squeezed slice holds a value gives that value in the rectangle's shape. -/
theorem sq_read {s s' : Shape} {e : EltTy} (M : Memref sig .tc .vmem s e) (r : Rect s) (hr : ∀ a, r.stride a = 1) (hq : r.shape.Squeezes s')
    (hc : r.shape.ShapeCasts s') (hc' : s'.ShapeCasts r.shape) (x : s'.Idx → Elt F e) :
    (M.access r).read (Elt F) (((M.slice r hr).squeeze s' hq).view.rep x) = shapeCast r.shape x hc' := by
  have h1 : shapeCast s' ((M.access r).read (Elt F) (((M.slice r hr).squeeze s' hq).view.rep x)) hc = x :=
    View.read_rep ((M.slice r hr).squeeze s' hq).view x
  have h2 := congrArg (fun y => shapeCast r.shape y hc') h1
  exact (shapeCast_shapeCast _ hc hc').symm.trans h2

/-- The squeezed slice read after a store to the rectangle gives what was stored, in the slice's shape. -/
theorem sq_write {s s' : Shape} {e : EltTy} (M : Memref sig .tc .vmem s e) (r : Rect s) (hr : ∀ a, r.stride a = 1) (hq : r.shape.Squeezes s')
    (hc : r.shape.ShapeCasts s') (f : M.view.ty.Contents (Elt F)) (w : r.shape.Idx → Elt F e) :
    ((M.slice r hr).squeeze s' hq).view.read (Elt F) ((M.access r).write (Elt F) f w Finset.univ) = shapeCast s' w hc :=
  congrArg (fun y => shapeCast s' y hc) (View.read_write_univ (v := M.access r) f w)

/-- A rectangle read after a store to it gives what was stored. -/
theorem acc_write {s : Shape} {e : EltTy} (M : Memref sig .tc .vmem s e) (r : Rect s) (f : M.view.ty.Contents (Elt F)) (w : r.shape.Idx → Elt F e) :
    (M.access r).read (Elt F) ((M.access r).write (Elt F) f w Finset.univ) = w := View.read_write_univ (v := M.access r) f w

/-! ## The accumulators -/

/-- The accumulator buffer of a half. -/
abbrev accs (h : Fin 2) : Memref sig .tc .vmem S2x256x256 .f32 := match h with
  | 0 => Memref.whole cc0_scratch0
  | 1 => Memref.whole cc0_scratch1

/-- The block of a batch entry lies inside an accumulator. -/
theorem acc_inb (b : Fin 2) : ∀ a, (![b.val, 0, 0] : Fin 3 → ℕ) a + S1x256x256.size a ≤ S2x256x256.size a := by revert b; decide

/-- The rectangle of batch entry `b` in an accumulator. -/
abbrev accR (b : Fin 2) : Rect S2x256x256 := Rect.unit (s := S2x256x256) ![b.val, 0, 0] S1x256x256.size (acc_inb b)

/-- Entry `b` of half `h`'s accumulator, held at `x`. -/
def accAt (c : Dev nD) (h b : Fin 2) (x : FVec F S1x256x256 .f32) : sProp 𝕄 :=
  iprop(∃ f, ⌜((accs h).access (accR b)).read (Elt F) f = x⌝ ∗ (((accs h).access (accR b)).loc (c : Thread nD τ) ↦[((accs h).access (accR b)).set]{fullShare} f))
/-- The same entry at any contents. -/
def accAny (c : Dev nD) (h b : Fin 2) : sProp 𝕄 :=
  iprop(∃ f, ((accs h).access (accR b)).loc (c : Thread nD τ) ↦[((accs h).access (accR b)).set]{fullShare} f)

/-- An accumulator's entry held at a value is held at some contents. -/
theorem accAt_any (c : Dev nD) (h b : Fin 2) (x : FVec F S1x256x256 .f32) : accAt c h b x ⊢ (accAny c h b : sProp 𝕄) := by
  unfold accAt accAny
  iintro ⟨%f, -, H⟩
  iexists f
  iexact H

section Steps
variable (c : Dev nD)

/-- A load of an accumulator's entry reads what it holds. -/
theorem load_acc (h b : Fin 2) (x : FVec F S1x256x256 .f32) {hl : (accs h).view.LoadsAt (accR b).toLoadRect}
    (k : Vec F (accR b).toLoadRect.shape .f32 → Prog (TpuEff nD τ sig (Elt F) Λ₀ .tc) α) (Q : α → sProp 𝕄) :
    (accAt c h b x : sProp 𝕄) ⊢ iprop((accAt c h b x -∗ wp frame (wpE (defs₀ (F := F)) 𝒱₀ c none) Set.univ (k x) Q)
      -∗ wp frame (wpE (defs₀ (F := F)) 𝒱₀ c none) Set.univ (.op (.load (accs h) (accR b).toLoadRect hl) k) Q) := by
  unfold accAt
  iintro ⟨%f, %hf, H⟩ Hk
  iapply (wp_load_rect 𝒱₀ (c : Thread nD τ) none Set.univ (m := accs h) (r := accR b) (subset_refl _)) $$ H
  iintro H
  rw [hf]
  iapply Hk
  iexists f
  isplitr
  · ipureintro; exact hf
  iexact H

/-- A load of an entry at contents not chosen reads something. -/
theorem load_accAny (h b : Fin 2) {hl : (accs h).view.LoadsAt (accR b).toLoadRect}
    (k : Vec F (accR b).toLoadRect.shape .f32 → Prog (TpuEff nD τ sig (Elt F) Λ₀ .tc) α) (Q : α → sProp 𝕄) :
    (accAny c h b : sProp 𝕄) ⊢ iprop((∀ v, accAny c h b -∗ wp frame (wpE (defs₀ (F := F)) 𝒱₀ c none) Set.univ (k v) Q)
      -∗ wp frame (wpE (defs₀ (F := F)) 𝒱₀ c none) Set.univ (.op (.load (accs h) (accR b).toLoadRect hl) k) Q) := by
  unfold accAny
  iintro ⟨%f, H⟩ Hk
  iapply (wp_load_rect 𝒱₀ (c : Thread nD τ) none Set.univ (m := accs h) (r := accR b) (subset_refl _)) $$ H
  iintro H
  iapply Hk
  iexists f
  iexact H

/-- A store to an accumulator's entry leaves it at what is stored. -/
theorem store_acc (h b : Fin 2) (w : FVec F S1x256x256 .f32) {hx : ((accs h).access (accR b)).Stores Finset.univ}
    {hm : (Finset.univ : Finset (accR b).shape.Idx) = Finset.univ ∨ ∀ a, (accR b).stride a = 1}
    (k : PUnit → Prog (TpuEff nD τ sig (Elt F) Λ₀ .tc) α) (Q : α → sProp 𝕄) :
    (accAny c h b : sProp 𝕄) ⊢ iprop((accAt c h b w -∗ wp frame (wpE (defs₀ (F := F)) 𝒱₀ c none) Set.univ (k ⟨⟩) Q)
      -∗ wp frame (wpE (defs₀ (F := F)) 𝒱₀ c none) Set.univ (.op (.store (accs h) (accR b) w Finset.univ hx hm) k) Q) := by
  unfold accAny accAt
  iintro ⟨%f, H⟩ Hk
  iapply (wp_store 𝒱₀ (c : Thread nD τ) none Set.univ (m := accs h) (r := accR b) (w := w) (Mk := Finset.univ) (f := f) (subset_of_eq (View.setOn_univ _))) $$ H
  iintro H
  iapply Hk
  iexists _
  isplitr
  · ipureintro; exact acc_write (accs h) (accR b) f w
  iexact H

/-! ## The slots -/

/-- A slot has the same places as a rectangle and as a slice. -/
theorem slot_set (h : Fin 2) (k : Fin 4) (b : Fin 2) : ((slots h).access (slotR k b)).set = (slotM h k b).view.set :=
  sq_set (slots h) (slotR k b) (fun _ => rfl) squeezes_S1x1x256x256_S256x256

/-- A slot's rectangle read where the slot holds a matrix gives that matrix. -/
theorem slot_read (h : Fin 2) (k : Fin 4) (b : Fin 2) (x : FVec F S256x256 .bf16) :
    ((slots h).access (slotR k b)).read (Elt F) ((slotM h k b).view.rep x) = shapeCast S1x1x256x256 x shapeCasts_S256x256_S1x1x256x256 :=
  sq_read (slots h) (slotR k b) (fun _ => rfl) squeezes_S1x1x256x256_S256x256 shapeCasts_S1x1x256x256_S256x256 shapeCasts_S256x256_S1x1x256x256 x

/-- A load of a slot reads the matrix it holds. -/
theorem load_slot (h : Fin 2) (n : Fin 4) (b : Fin 2) (x : FVec F S256x256 .bf16) {hl : (slots h).view.LoadsAt (slotR n b).toLoadRect}
    (k : Vec F (slotR n b).toLoadRect.shape .bf16 → Prog (TpuEff nD τ sig (Elt F) Λ₀ .tc) α) (Q : α → sProp 𝕄) :
    (slotAt c h n b x : sProp 𝕄) ⊢ iprop((slotAt c h n b x -∗ wp frame (wpE (defs₀ (F := F)) 𝒱₀ c none) Set.univ (k (shapeCast S1x1x256x256 x shapeCasts_S256x256_S1x1x256x256)) Q)
      -∗ wp frame (wpE (defs₀ (F := F)) 𝒱₀ c none) Set.univ (.op (.load (slots h) (slotR n b).toLoadRect hl) k) Q) := by
  unfold slotAt
  iintro H Hk
  iapply (wp_load_rect 𝒱₀ (c : Thread nD τ) none Set.univ (m := slots h) (r := slotR n b) (subset_of_eq (slot_set h n b))) $$ H
  iintro H
  rw [slot_read h n b x]
  iapply Hk
  iexact H

/-- A load of a slot at contents not chosen reads something. -/
theorem load_slotAny (h : Fin 2) (n : Fin 4) (b : Fin 2) {hl : (slots h).view.LoadsAt (slotR n b).toLoadRect}
    (k : Vec F (slotR n b).toLoadRect.shape .bf16 → Prog (TpuEff nD τ sig (Elt F) Λ₀ .tc) α) (Q : α → sProp 𝕄) :
    (slotAny c h n b : sProp 𝕄) ⊢ iprop((∀ v, slotAny c h n b -∗ wp frame (wpE (defs₀ (F := F)) 𝒱₀ c none) Set.univ (k v) Q)
      -∗ wp frame (wpE (defs₀ (F := F)) 𝒱₀ c none) Set.univ (.op (.load (slots h) (slotR n b).toLoadRect hl) k) Q) := by
  unfold slotAny
  iintro ⟨%f, H⟩ Hk
  iapply (wp_load_rect 𝒱₀ (c : Thread nD τ) none Set.univ (m := slots h) (r := slotR n b) (subset_of_eq (slot_set h n b))) $$ H
  iintro H
  iapply Hk
  iexists f
  iexact H

/-- A store to a slot leaves it at the matrix stored. -/
theorem store_slot (h : Fin 2) (n : Fin 4) (b : Fin 2) (w : FVec F S1x1x256x256 .bf16) {hx : ((slots h).access (slotR n b)).Stores Finset.univ}
    {hm : (Finset.univ : Finset (slotR n b).shape.Idx) = Finset.univ ∨ ∀ a, (slotR n b).stride a = 1}
    (k : PUnit → Prog (TpuEff nD τ sig (Elt F) Λ₀ .tc) α) (Q : α → sProp 𝕄) :
    (slotAny c h n b : sProp 𝕄) ⊢ iprop((slotAt c h n b (shapeCast S256x256 w shapeCasts_S1x1x256x256_S256x256) -∗ wp frame (wpE (defs₀ (F := F)) 𝒱₀ c none) Set.univ (k ⟨⟩) Q)
      -∗ wp frame (wpE (defs₀ (F := F)) 𝒱₀ c none) Set.univ (.op (.store (slots h) (slotR n b) w Finset.univ hx hm) k) Q) := by
  unfold slotAny
  iintro ⟨%f, H⟩ Hk
  iapply (wp_store 𝒱₀ (c : Thread nD τ) none Set.univ (m := slots h) (r := slotR n b) (w := w) (Mk := Finset.univ)
    (f := f) (subset_of_eq ((View.setOn_univ _).trans (slot_set h n b)))) $$ H
  iintro H
  iapply Hk
  rw [← slotAt_of_read c h n b (shapeCast S256x256 w shapeCasts_S1x1x256x256_S256x256) (((slots h).access (slotR n b)).write (Elt F) f w Finset.univ)]
  · iexact H
  · exact sq_write (slots h) (slotR n b) (fun _ => rfl) squeezes_S1x1x256x256_S256x256 shapeCasts_S1x1x256x256_S256x256 f w

/-! ## A buffer held whole -/

/-- A load through a memref whose elements are held. -/
theorem load_held {sp : CoreSpace} {s : Shape} {e : EltTy} (m : Memref sig .tc sp s e) (r : Rect s) (f : Buf (Elt F) (m.view.loc (c : Thread nD τ))) {hl : m.view.LoadsAt r.toLoadRect}
    (k : (r.toLoadRect.shape.Idx → Elt F e) → Prog (TpuEff nD τ sig (Elt F) Λ₀ .tc) α) (Q : α → sProp 𝕄) :
    (m.view.loc (c : Thread nD τ) ↦[m.view.set]{fullShare} f : sProp 𝕄) ⊢ iprop(((m.view.loc (c : Thread nD τ) ↦[m.view.set]{fullShare} f)
        -∗ wp frame (wpE (defs₀ (F := F)) 𝒱₀ c none) Set.univ (k (m.view.readAt (Elt F) r.toLoadRect f)) Q)
      -∗ wp frame (wpE (defs₀ (F := F)) 𝒱₀ c none) Set.univ (.op (.load m r.toLoadRect hl) k) Q) :=
  wp_load 𝒱₀ (c : Thread nD τ) none Set.univ (View.setOn_subset_set _ _)

/-- A store through a memref whose elements are held. -/
theorem store_held {sp : CoreSpace} {s : Shape} {e : EltTy} (m : Memref sig .tc sp s e) (r : Rect s) (w : r.shape.Idx → Elt F e) (f : Buf (Elt F) ((m.access r).loc (c : Thread nD τ)))
    {hx : (m.access r).Stores Finset.univ} {hm : (Finset.univ : Finset r.shape.Idx) = Finset.univ ∨ ∀ a, r.stride a = 1}
    (k : PUnit → Prog (TpuEff nD τ sig (Elt F) Λ₀ .tc) α) (Q : α → sProp 𝕄) :
    ((m.access r).loc (c : Thread nD τ) ↦[m.view.set]{fullShare} f : sProp 𝕄) ⊢ iprop((((m.access r).loc (c : Thread nD τ) ↦[m.view.set]{fullShare} ((m.access r).write (Elt F) f w Finset.univ))
        -∗ wp frame (wpE (defs₀ (F := F)) 𝒱₀ c none) Set.univ (k ⟨⟩) Q)
      -∗ wp frame (wpE (defs₀ (F := F)) 𝒱₀ c none) Set.univ (.op (.store m r w Finset.univ hx hm) k) Q) :=
  wp_store 𝒱₀ (c : Thread nD τ) none Set.univ (Memref.setOn_access_subset m r Finset.univ)

end Steps

end Cert.KernelIdealProof

end
-- ==== Proof.KernelIdeal.Vals.lean ====
/- What each device's run computes from the blocks it is handed: the two partial products of each batch entry, what goes out in
   each exchange, and the result. Each value is the printed payload of the values before it. -/
module

public import proofs.«01_k».proof.Proof.KernelIdeal.Mem

@[expose] public section

noncomputable section

namespace Cert.KernelIdealProof

open Cert.KernelIdeal Cert.KernelIdeal.Gen

open Idealize.ShloMosaic
open Idealize.ShloMosaic.TcCoe

variable {F : FTy → Type} [FloatOps F]

/-- The five blocks a device's region is handed: the rows of x, its columns of Wq, its heads of K and V, its rows of Wo. -/
structure Ins (F : FTy → Type) [FloatOps F] where
  x : Vec F S2x256x512 .bf16
  wq : Vec F S512x256 .bf16
  k : Vec F S4x2x256x64 .bf16
  v : Vec F S4x2x256x64 .bf16
  wo : Vec F S256x512 .bf16

namespace Ins
variable (I : Ins F)

abbrev x0 : Vec F S1x256x512 .bf16 := (Memref.whole cc0_stg0_0).view.readAt (Elt F) (Rect.unit (s := S2x256x512) ![0, 0, 0] S1x256x512.size inb_S2x256x512_S1x256x512_0_0_0).toLoadRect I.x
abbrev x1 : Vec F S1x256x512 .bf16 := (Memref.whole cc0_stg0_0).view.readAt (Elt F) (Rect.unit (s := S2x256x512) ![1, 0, 0] S1x256x512.size inb_S2x256x512_S1x256x512_1_0_0).toLoadRect I.x
abbrev w : Vec F S512x256 .bf16 := (Memref.whole cc0_stg1_0).view.readAt (Elt F) (Rect.unit (s := S512x256) ![0, 0] S512x256.size inb_S512x256_S512x256_0_0).toLoadRect I.wq

/-- A head's block of one batch entry lies inside the keys. -/
theorem head_inb (h : Fin 4) (b : Fin 2) : ∀ a, (![h.val, b.val, 0, 0] : Fin 4 → ℕ) a + S1x1x256x64.size a ≤ S4x2x256x64.size a := by
  revert h b; decide
/-- The rectangle of head `h`, batch entry `b`. -/
abbrev headR (h : Fin 4) (b : Fin 2) : Rect S4x2x256x64 := Rect.unit (s := S4x2x256x64) ![h.val, b.val, 0, 0] S1x1x256x64.size (head_inb h b)
abbrev kh (h : Fin 4) (b : Fin 2) : Vec F S1x1x256x64 .bf16 := (Memref.whole cc0_stg2_0).view.readAt (Elt F) (headR h b).toLoadRect I.k
abbrev vh (h : Fin 4) (b : Fin 2) : Vec F S1x1x256x64 .bf16 := (Memref.whole cc0_stg3_0).view.readAt (Elt F) (headR h b).toLoadRect I.v
abbrev woA : Vec F S256x256 .bf16 := (Memref.whole cc0_stg4_0).view.readAt (Elt F) (Rect.unit (s := S256x512) ![0, 0] S256x256.size inb_S256x512_S256x256_0_0).toLoadRect I.wo
abbrev woB : Vec F S256x256 .bf16 := (Memref.whole cc0_stg4_0).view.readAt (Elt F) (Rect.unit (s := S256x512) ![0, 256] S256x256.size inb_S256x512_S256x256_0_256).toLoadRect I.wo

/-- The queries of batch entry 0. -/
abbrev q0 : FVec F S256x256 .f32 := k0_pay3 I.x0 I.w
abbrev c00 : FVec F S256x64 .f32 := k0_pay6 k0_pay2 (k0_pay4 (I.vh 0 0)) (k0_pay5 I.x0 I.w (I.kh 0 0))
abbrev c01 : FVec F S256x64 .f32 := k0_pay7 k0_pay2 I.q0 (I.kh 1 0) (I.vh 1 0)
abbrev c02 : FVec F S256x64 .f32 := k0_pay10 k0_pay2 (k0_pay8 I.q0) (k0_pay9 (I.kh 2 0)) (I.vh 2 0)
abbrev c03 : FVec F S256x64 .f32 := k0_pay11 k0_pay2 I.q0 (I.kh 3 0) (I.vh 3 0)
/-- The queries of batch entry 1. -/
abbrev q1 : FVec F S256x256 .f32 := k0_pay19 I.x1 I.w
abbrev c10 : FVec F S256x64 .f32 := k0_pay22 k0_pay2 (k0_pay20 I.x1 I.w) (k0_pay21 (I.kh 0 1)) (I.vh 0 1)
abbrev c11 : FVec F S256x64 .f32 := k0_pay23 k0_pay2 I.q1 (I.kh 1 1) (I.vh 1 1)
abbrev c12 : FVec F S256x64 .f32 := k0_pay25 k0_pay2 (k0_pay24 I.q1) (I.kh 2 1) (I.vh 2 1)
abbrev v13 : FVec F S256x64 .bf16 := k0_pay26 (I.vh 3 1)
abbrev r13 : FVec F S256x1 .f32 := k0_pay28 k0_pay2 I.q1 (I.kh 3 1)
abbrev e13 : FVec F S256x256 .bf16 := k0_pay29 k0_pay2 I.q1 (I.kh 3 1)
abbrev z13 : FVec F S256x64 .f32 := constant S256x64 .f32 0x00000000#32

abbrev pB0 : FVec F S256x256 .f32 := k0_pay16 I.c00 I.c01 I.c02 I.c03 I.woB
abbrev pB1 : FVec F S256x256 .f32 := k0_pay34 I.c10 I.c11 I.c12 I.v13 I.r13 I.e13 z13 I.woB

/-- The device's own partial product of half `h`, batch entry `b`. -/
@[reducible] def acc1 : Fin 2 → Fin 2 → FVec F S1x256x256 .f32
  | 0, 0 => k0_pay14 I.c00 I.c01 I.c02 I.c03 I.woA
  | 0, 1 => k0_pay32 I.c10 I.c11 I.c12 I.v13 I.r13 I.e13 z13 I.woA
  | 1, 0 => k0_pay17 I.pB0
  | 1, 1 => k0_pay35 I.pB1
/-- What it sends of it in the first exchange. -/
@[reducible] def out1 : Fin 2 → Fin 2 → FVec F S1x1x256x256 .bf16
  | 0, 0 => k0_pay15 I.c00 I.c01 I.c02 I.c03 I.woA
  | 0, 1 => k0_pay33 I.c10 I.c11 I.c12 I.v13 I.r13 I.e13 z13 I.woA
  | 1, 0 => k0_pay18 I.pB0
  | 1, 1 => k0_pay36 I.pB1

end Ins

variable (G : Dev nD → Ins F)

abbrev sq (y : FVec F S1x1x256x256 .bf16) : FVec F S256x256 .bf16 := shapeCast S256x256 y shapeCasts_S1x1x256x256_S256x256
abbrev us (y : FVec F S256x256 .bf16) : FVec F S1x1x256x256 .bf16 := shapeCast S1x1x256x256 y shapeCasts_S256x256_S1x1x256x256

/-- The matrix sent in the first exchange. -/
@[reducible] def X1 (c : Dev nD) (h b : Fin 2) : FVec F S256x256 .bf16 := sq ((G c).out1 h b)
/-- The accumulator after the first exchange. -/
@[reducible] def acc2 (c : Dev nD) : Fin 2 → Fin 2 → FVec F S1x256x256 .f32
  | 0, 0 => k0_pay37 ((G c).acc1 0 0) (us (X1 G (partner (0, 0, 0) c) 0 0))
  | 0, 1 => k0_pay42 (k0_pay41 ((G c).acc1 0 1) (us (X1 G (partner (0, 0, 1) c) 0 1)))
  | 1, 0 => k0_pay39 ((G c).acc1 1 0) (us (X1 G (partner (1, 0, 0) c) 1 0))
  | 1, 1 => k0_pay44 ((G c).acc1 1 1) (us (X1 G (partner (1, 0, 1) c) 1 1))
/-- What is sent of it in the second exchange. -/
@[reducible] def out2 (c : Dev nD) : Fin 2 → Fin 2 → FVec F S1x1x256x256 .bf16
  | 0, 0 => k0_pay38 (acc2 G c 0 0)
  | 0, 1 => k0_pay43 (acc2 G c 0 1)
  | 1, 0 => k0_pay40 (acc2 G c 1 0)
  | 1, 1 => k0_pay46 (k0_pay45 (acc2 G c 1 1))

/-- What every channel carries. -/
abbrev X (c : Dev nD) (ch : Chan) : FVec F S256x256 .bf16 := match ch.2.1 with
  | 0 => X1 G c ch.1 ch.2.2
  | 1 => sq (out2 G c ch.1 ch.2.2)

/-- The four blocks of the result. -/
@[reducible] def res (c : Dev nD) : Fin 2 → Fin 2 → FVec F S1x256x256 .f32
  | 0, 0 => k0_pay47 (acc2 G c 0 0) (us (X G (partner (0, 1, 0) c) (0, 1, 0)))
  | 0, 1 => k0_pay49 (acc2 G c 0 1) (us (X G (partner (0, 1, 1) c) (0, 1, 1)))
  | 1, 0 => k0_pay48 (acc2 G c 1 0) (us (X G (partner (1, 1, 0) c) (1, 1, 0)))
  | 1, 1 => k0_pay1 (acc2 G c 1 1) (us (X G (partner (1, 1, 1) c) (1, 1, 1)))

/-! ## What a region's buffers are held at -/

section Held
open Idealize.SL Idealize.SL.RA Idealize.SL.BI
open scoped Idealize.SL.BI

local notation "𝕄" => MT nD τ sig Unit (Elt F) ℕ UU ℕ

abbrev xAt (c : Dev nD) (f : Vec F S2x256x512 .bf16) : sProp 𝕄 := (Memref.whole cc0_stg0_0).view.loc (c : Thread nD τ) ↦[(Memref.whole cc0_stg0_0).view.set]{fullShare} f
abbrev wqAt (c : Dev nD) (f : Vec F S512x256 .bf16) : sProp 𝕄 := (Memref.whole cc0_stg1_0).view.loc (c : Thread nD τ) ↦[(Memref.whole cc0_stg1_0).view.set]{fullShare} f
abbrev kAt (c : Dev nD) (f : Vec F S4x2x256x64 .bf16) : sProp 𝕄 := (Memref.whole cc0_stg2_0).view.loc (c : Thread nD τ) ↦[(Memref.whole cc0_stg2_0).view.set]{fullShare} f
abbrev vAt (c : Dev nD) (f : Vec F S4x2x256x64 .bf16) : sProp 𝕄 := (Memref.whole cc0_stg3_0).view.loc (c : Thread nD τ) ↦[(Memref.whole cc0_stg3_0).view.set]{fullShare} f
abbrev woAt (c : Dev nD) (f : Vec F S256x512 .bf16) : sProp 𝕄 := (Memref.whole cc0_stg4_0).view.loc (c : Thread nD τ) ↦[(Memref.whole cc0_stg4_0).view.set]{fullShare} f
abbrev outAt (c : Dev nD) (f : Vec F S2x256x512 .f32) : sProp 𝕄 := (Memref.whole cc0_stg5_0).view.loc (c : Thread nD τ) ↦[(Memref.whole cc0_stg5_0).view.set]{fullShare} f

end Held

/-- The quarter of the result that half `h`, batch entry `b` fills. -/
theorem out_inb (h b : Fin 2) : ∀ a, (![b.val, 0, 256 * h.val] : Fin 3 → ℕ) a + S1x256x256.size a ≤ S2x256x512.size a := by revert h b; decide
abbrev outR (h b : Fin 2) : Rect S2x256x512 := Rect.unit (s := S2x256x512) ![b.val, 0, 256 * h.val] S1x256x256.size (out_inb h b)
/-- The result with one quarter rewritten. -/
abbrev put (h b : Fin 2) (f : Vec F S2x256x512 .f32) (y : FVec F S1x256x256 .f32) : Vec F S2x256x512 .f32 :=
  ((Memref.whole cc0_stg5_0).access (outR h b)).write (Elt F) f y Finset.univ

/-! ## Whom each printed peer word names -/

/-- The first device signalled is the first partner. -/
theorem dev1_eq (c : Dev nD) : (⟨k0_dev1 c, k0_dev1_lt c⟩ : Dev nD) = xp c := by revert c; decide
/-- The second device signalled is the second partner. -/
theorem dev2_eq (c : Dev nD) : (⟨k0_dev2 c, k0_dev2_lt c⟩ : Dev nD) = yp c := by revert c; decide
/-- The device copied to on channel `(0, 0, 0)` is the partner there. -/
theorem dev3_eq (c : Dev nD) : (⟨k0_dev3 c, k0_dev3_lt c⟩ : Dev nD) = partner (0, 0, 0) c := by revert c; decide
/-- The device copied to on channel `(1, 0, 0)` is the partner there. -/
theorem dev4_eq (c : Dev nD) : (⟨k0_dev4 c, k0_dev4_lt c⟩ : Dev nD) = partner (1, 0, 0) c := by revert c; decide
/-- The device copied to on channel `(0, 0, 1)` is the partner there. -/
theorem dev5_eq (c : Dev nD) : (⟨k0_dev5 c, k0_dev5_lt c⟩ : Dev nD) = partner (0, 0, 1) c := by revert c; decide
/-- The device copied to on channel `(1, 0, 1)` is the partner there. -/
theorem dev6_eq (c : Dev nD) : (⟨k0_dev6 c, k0_dev6_lt c⟩ : Dev nD) = partner (1, 0, 1) c := by revert c; decide
/-- The device copied to on channel `(0, 1, 0)` is the partner there. -/
theorem dev7_eq (c : Dev nD) : (⟨k0_dev7 c, k0_dev7_lt c⟩ : Dev nD) = partner (0, 1, 0) c := by revert c; decide
/-- The device copied to on channel `(1, 1, 0)` is the partner there. -/
theorem dev8_eq (c : Dev nD) : (⟨k0_dev8 c, k0_dev8_lt c⟩ : Dev nD) = partner (1, 1, 0) c := by revert c; decide
/-- The device copied to on channel `(0, 1, 1)` is the partner there. -/
theorem dev9_eq (c : Dev nD) : (⟨k0_dev9 c, k0_dev9_lt c⟩ : Dev nD) = partner (0, 1, 1) c := by revert c; decide
/-- The device copied to on channel `(1, 1, 1)` is the partner there. -/
theorem dev10_eq (c : Dev nD) : (⟨k0_dev10 c, k0_dev10_lt c⟩ : Dev nD) = partner (1, 1, 1) c := by revert c; decide

end Cert.KernelIdealProof

end
-- ==== Proof.KernelIdeal.Parts.lean ====
/- The run of the kernel's body, part by part: each part is the rules of its operations in order, from what it needs to what it
   leaves. -/
module

public import proofs.«01_k».proof.Proof.KernelIdeal.Vals

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program that returns. -/
theorem wp_pure {α : Type} {c : Dev nD} (v : α) (Q : α → sProp 𝕄) :
    wp frame (wpE (defs₀ (F := F)) 𝒱₀ c none) Set.univ (pure v : Prog (TpuEff nD τ sig (Elt F) Λ₀ .tc) α) Q = iprop(|={Set.univ}=> Q v) := rfl

variable (G : Dev nD → Ins F) (K : GSem nD τ sig → ℕ) (c : Dev nD)

/-- The barrier: a unit to each partner, which takes the landing slots; both partners' units bring theirs. Then the loads of batch entry 0. -/
theorem part1_run (Q : (Σ' (d0 : Dev nD) (v3 : BitVec 32) (v4 : BitVec 32) (v15 : IVec S256x256 1) (v20 : FVec F S256x256 .f32) (v26 : FVec F S256x64 .bf16), FVec F S256x256 .f32) → sProp 𝕄) :
    iprop(records (X G) K
        ∗ levAts L lv
        ∗ dutyTok ER (barCell (xp c)) 0 0
        ∗ dutyTok ER (barCell (yp c)) 0 1
        ∗ barPay (xp c) 0
        ∗ barPay (yp c) 1
        ∗ atPos ER (barCell c) 0 ∅ 0
        ∗ cred (tallyAt (barCell c) () 2)
        ∗ xAt c (G c).x
        ∗ wqAt c (G c).wq
        ∗ kAt c (G c).k
        ∗ vAt c (G c).v
        ∗ owing c (O₀ c))
      ⊢ iprop((iprop(atPos ER (barCell c) (0 + 1) ∅ 0
            ∗ xAt c (G c).x
            ∗ wqAt c (G c).wq
            ∗ kAt c (G c).k
            ∗ vAt c (G c).v
            ∗ owing c (owedOn c order)
            ∗ barPay c 0
            ∗ barPay c 1)
          -∗ Q ⟨c, Scalar.subi 3#32 (Scalar.remsi (Scalar.divsi (Dev.word c) 1#32) 4#32), Scalar.xori (Scalar.remsi (Scalar.divsi (Dev.word c) 1#32) 4#32) 1#32,
            k0_pay2, (G c).q0, k0_pay4 ((G c).vh 0 0), k0_pay5 (G c).x0 (G c).w ((G c).kh 0 0)⟩)
        -∗ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [k0_part1_eq_skeleton]
  unfold k0_part1_skel
  simp only [Prog.bind_lift, Prog.bind_op, Prog.bind_ret, semSignalWord, semWaitWord, wp_deviceId]
  iintro ⟨#HR, #HL, TX, TY, BX, BY, HB, CB, Hx, Hw, Hkk, Hv, HO⟩ Hk
  iapply (signal_step (X G) K c (xp c) _ 0 (owedOn c order + tallyAt (barCell (yp c)) () 1) (dev1_eq c) _ _) $$ [TX BX HO]
  · isplitr; · iexact HR
    isplitl [TX]; · iexact TX
    isplitl [BX]; · iexact BX
    iexact HO
  iintro HO
  iapply (signal_step (X G) K c (yp c) _ 1 (owedOn c order) (dev2_eq c) _ _) $$ [TY BY HO]
  · isplitr; · iexact HR
    isplitl [TY]; · iexact TY
    isplitl [BY]; · iexact BY
    iexact HO
  iintro HO
  iapply (barrier_step (X G) K c order _ _) $$ [HB CB HO]
  · isplitr; · iexact HR
    isplitr; · iexact HL
    isplitl [HB]; · iexact HB
    isplitl [CB]; · iexact CB
    iexact HO
  iintro ⟨HB, B0, B1, HO⟩
  iapply (load_held c (Memref.whole cc0_stg0_0) (Rect.unit (s := S2x256x512) ![0, 0, 0] S1x256x512.size inb_S2x256x512_S1x256x512_0_0_0) _ _ _) $$ Hx
  iintro Hx
  iapply (load_held c (Memref.whole cc0_stg1_0) (Rect.unit (s := S512x256) ![0, 0] S512x256.size inb_S512x256_S512x256_0_0) _ _ _) $$ Hw
  iintro Hw
  iapply (load_held c (Memref.whole cc0_stg2_0) (Ins.headR 0 0) _ _ _) $$ Hkk
  iintro Hkk
  iapply (load_held c (Memref.whole cc0_stg3_0) (Ins.headR 0 0) _ _ _) $$ Hv
  iintro Hv
  rw [wp_pure]
  imodintro
  iapply Hk
  isplitl [HB]; · iexact HB
  isplitl [Hx]; · iexact Hx
  isplitl [Hw]; · iexact Hw
  isplitl [Hkk]; · iexact Hkk
  isplitl [Hv]; · iexact Hv
  isplitl [HO]; · iexact HO
  isplitl [B0]; · iexact B0
  iexact B1

/-- Heads 0 and 1 of batch entry 0, the keys of head 2. -/
theorem part2_run (Q : (Σ' (v40 : FVec F S256x64 .f32) (v60 : FVec F S256x64 .f32) (v62 : FVec F S256x64 .bf16), FVec F S256x64 .bf16) → sProp 𝕄) :
    iprop(records (X G) K
        ∗ levAts L lv
        ∗ kAt c (G c).k
        ∗ vAt c (G c).v)
      ⊢ iprop((iprop(kAt c (G c).k
            ∗ vAt c (G c).v)
          -∗ Q ⟨(G c).c00, (G c).c01, k0_pay8 (G c).q0, k0_pay9 ((G c).kh 2 0)⟩)
        -∗ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_pay2 (G c).q0 (k0_pay4 ((G c).vh 0 0)) (k0_pay5 (G c).x0 (G c).w ((G c).kh 0 0))) Q) := by
  rw [k0_part2_eq_skeleton]
  unfold k0_part2_skel
  simp only [Prog.bind_lift]
  iintro ⟨#HR, #HL, Hkk, Hv⟩ Hk
  iapply (load_held c (Memref.whole cc0_stg2_0) (Ins.headR 1 0) _ _ _) $$ Hkk
  iintro Hkk
  iapply (load_held c (Memref.whole cc0_stg3_0) (Ins.headR 1 0) _ _ _) $$ Hv
  iintro Hv
  iapply (load_held c (Memref.whole cc0_stg2_0) (Ins.headR 2 0) _ _ _) $$ Hkk
  iintro Hkk
  rw [wp_pure]
  imodintro
  iapply Hk
  isplitl [Hkk]; · iexact Hkk
  iexact Hv

/-- Heads 2 and 3 of batch entry 0. -/
theorem part3_run (Q : (Σ' (v80 : FVec F S256x64 .f32), FVec F S256x64 .f32) → sProp 𝕄) :
    iprop(records (X G) K
        ∗ levAts L lv
        ∗ kAt c (G c).k
        ∗ vAt c (G c).v)
      ⊢ iprop((iprop(kAt c (G c).k
            ∗ vAt c (G c).v)
          -∗ Q ⟨(G c).c02, (G c).c03⟩)
        -∗ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_pay2 (G c).q0 (k0_pay8 (G c).q0) (k0_pay9 ((G c).kh 2 0))) Q) := by
  rw [k0_part3_eq_skeleton]
  unfold k0_part3_skel
  simp only [Prog.bind_lift]
  iintro ⟨#HR, #HL, Hkk, Hv⟩ Hk
  iapply (load_held c (Memref.whole cc0_stg3_0) (Ins.headR 2 0) _ _ _) $$ Hv
  iintro Hv
  iapply (load_held c (Memref.whole cc0_stg2_0) (Ins.headR 3 0) _ _ _) $$ Hkk
  iintro Hkk
  iapply (load_held c (Memref.whole cc0_stg3_0) (Ins.headR 3 0) _ _ _) $$ Hv
  iintro Hv
  rw [wp_pure]
  imodintro
  iapply Hk
  isplitl [Hkk]; · iexact Hkk
  iexact Hv

/-- Half 0 of batch entry 0: stored, and sent. -/
theorem part4_run (v3 : BitVec 32) (Q : FVec F S256x256 .f32 → sProp 𝕄) :
    iprop(records (X G) K
        ∗ levAts L lv
        ∗ woAt c (G c).wo
        ∗ accAny c 0 0
        ∗ slotAny c 0 0 0
        ∗ idle c (0, 0, 0)
        ∗ lend (partner (0, 0, 0) c) (0, 0, 0)
        ∗ accAny c 1 0
        ∗ owing c (owedOn c [(0, 0, 0), (1, 0, 0), (0, 0, 1), (1, 0, 1), (0, 1, 0), (1, 1, 0), (0, 1, 1), (1, 1, 1)]))
      ⊢ iprop((iprop(woAt c (G c).wo
            ∗ accAt c 0 0 ((G c).acc1 0 0)
            ∗ sent c (0, 0, 0)
            ∗ accAny c 1 0
            ∗ owing c (owedOn c [(1, 0, 0), (0, 0, 1), (1, 0, 1), (0, 1, 0), (1, 1, 0), (0, 1, 1), (1, 1, 1)]))
          -∗ Q (G c).pB0)
        -∗ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 (G c).c00 (G c).c01 (G c).c02 (G c).c03) Q) := by
  rw [k0_part4_eq_skeleton]
  unfold k0_part4_skel
  simp only [Prog.bind_lift]
  iintro ⟨#HR, #HL, Ho, A00, S000, C000, L000, A10, HO⟩ Hk
  iapply (load_held c (Memref.whole cc0_stg4_0) (Rect.unit (s := S256x512) ![0, 0] S256x256.size inb_S256x512_S256x256_0_0) _ _ _) $$ Ho
  iintro Ho
  iapply (load_accAny c 0 0 _ _) $$ A00
  iintro %_ A00
  iapply (store_acc c 0 0 ((G c).acc1 0 0) _ _) $$ A00
  iintro A00
  iapply (load_slotAny c 0 0 0 _ _) $$ S000
  iintro %_ S000
  iapply (store_slot c 0 0 0 ((G c).out1 0 0) _ _) $$ S000
  iintro S000
  iapply (send_step (X G) K c _ (0, 0, 0) [(1, 0, 0), (0, 0, 1), (1, 0, 1), (0, 1, 0), (1, 1, 0), (0, 1, 1), (1, 1, 1)] (dev3_eq c) _ _) $$ [C000 L000 S000 HO]
  · isplitr; · iexact HR
    isplitl [C000]; · iexact C000
    isplitl [L000]; · iexact L000
    isplitl [S000]; · iexact S000
    iexact HO
  iintro ⟨C000, HO⟩
  iapply (load_held c (Memref.whole cc0_stg4_0) (Rect.unit (s := S256x512) ![0, 256] S256x256.size inb_S256x512_S256x256_0_256) _ _ _) $$ Ho
  iintro Ho
  iapply (load_accAny c 1 0 _ _) $$ A10
  iintro %_ A10
  rw [wp_pure]
  imodintro
  iapply Hk
  isplitl [Ho]; · iexact Ho
  isplitl [A00]; · iexact A00
  isplitl [C000]; · iexact C000
  isplitl [A10]; · iexact A10
  iexact HO

/-- Half 1 of batch entry 0: stored, and sent. The loads of batch entry 1. -/
theorem part5_run (v4 : BitVec 32) (Q : (Σ' (v147 : FVec F S256x256 .f32) (v149 : FVec F S256x64 .bf16) (v151 : FVec F S256x64 .bf16), Vec F S1x1x256x64 .bf16) → sProp 𝕄) :
    iprop(records (X G) K
        ∗ levAts L lv
        ∗ accAny c 1 0
        ∗ slotAny c 1 0 0
        ∗ idle c (1, 0, 0)
        ∗ lend (partner (1, 0, 0) c) (1, 0, 0)
        ∗ xAt c (G c).x
        ∗ wqAt c (G c).wq
        ∗ kAt c (G c).k
        ∗ vAt c (G c).v
        ∗ owing c (owedOn c [(1, 0, 0), (0, 0, 1), (1, 0, 1), (0, 1, 0), (1, 1, 0), (0, 1, 1), (1, 1, 1)]))
      ⊢ iprop((iprop(accAt c 1 0 ((G c).acc1 1 0)
            ∗ sent c (1, 0, 0)
            ∗ xAt c (G c).x
            ∗ wqAt c (G c).wq
            ∗ kAt c (G c).k
            ∗ vAt c (G c).v
            ∗ owing c (owedOn c [(0, 0, 1), (1, 0, 1), (0, 1, 0), (1, 1, 0), (0, 1, 1), (1, 1, 1)]))
          -∗ Q ⟨(G c).q1, k0_pay20 (G c).x1 (G c).w, k0_pay21 ((G c).kh 0 1), (G c).vh 0 1⟩)
        -∗ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 (G c).pB0) Q) := by
  rw [k0_part5_eq_skeleton]
  unfold k0_part5_skel
  simp only [Prog.bind_lift]
  iintro ⟨#HR, #HL, A10, S100, C100, L100, Hx, Hw, Hkk, Hv, HO⟩ Hk
  iapply (store_acc c 1 0 ((G c).acc1 1 0) _ _) $$ A10
  iintro A10
  iapply (load_slotAny c 1 0 0 _ _) $$ S100
  iintro %_ S100
  iapply (store_slot c 1 0 0 ((G c).out1 1 0) _ _) $$ S100
  iintro S100
  iapply (send_step (X G) K c _ (1, 0, 0) [(0, 0, 1), (1, 0, 1), (0, 1, 0), (1, 1, 0), (0, 1, 1), (1, 1, 1)] (dev4_eq c) _ _) $$ [C100 L100 S100 HO]
  · isplitr; · iexact HR
    isplitl [C100]; · iexact C100
    isplitl [L100]; · iexact L100
    isplitl [S100]; · iexact S100
    iexact HO
  iintro ⟨C100, HO⟩
  iapply (load_held c (Memref.whole cc0_stg0_0) (Rect.unit (s := S2x256x512) ![1, 0, 0] S1x256x512.size inb_S2x256x512_S1x256x512_1_0_0) _ _ _) $$ Hx
  iintro Hx
  iapply (load_held c (Memref.whole cc0_stg1_0) (Rect.unit (s := S512x256) ![0, 0] S512x256.size inb_S512x256_S512x256_0_0) _ _ _) $$ Hw
  iintro Hw
  iapply (load_held c (Memref.whole cc0_stg2_0) (Ins.headR 0 1) _ _ _) $$ Hkk
  iintro Hkk
  iapply (load_held c (Memref.whole cc0_stg3_0) (Ins.headR 0 1) _ _ _) $$ Hv
  iintro Hv
  rw [wp_pure]
  imodintro
  iapply Hk
  isplitl [A10]; · iexact A10
  isplitl [C100]; · iexact C100
  isplitl [Hx]; · iexact Hx
  isplitl [Hw]; · iexact Hw
  isplitl [Hkk]; · iexact Hkk
  isplitl [Hv]; · iexact Hv
  iexact HO

/-- Heads 0 and 1 of batch entry 1. -/
theorem part6_run (Q : (Σ' (v167 : FVec F S256x64 .f32) (v187 : FVec F S256x64 .f32), FVec F S256x64 .bf16) → sProp 𝕄) :
    iprop(records (X G) K
        ∗ levAts L lv
        ∗ kAt c (G c).k
        ∗ vAt c (G c).v)
      ⊢ iprop((iprop(kAt c (G c).k
            ∗ vAt c (G c).v)
          -∗ Q ⟨(G c).c10, (G c).c11, k0_pay24 (G c).q1⟩)
        -∗ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_pay2 (G c).q1 (k0_pay20 (G c).x1 (G c).w) (k0_pay21 ((G c).kh 0 1)) ((G c).vh 0 1)) Q) := by
  rw [k0_part6_eq_skeleton]
  unfold k0_part6_skel
  simp only [Prog.bind_lift]
  iintro ⟨#HR, #HL, Hkk, Hv⟩ Hk
  iapply (load_held c (Memref.whole cc0_stg2_0) (Ins.headR 1 1) _ _ _) $$ Hkk
  iintro Hkk
  iapply (load_held c (Memref.whole cc0_stg3_0) (Ins.headR 1 1) _ _ _) $$ Hv
  iintro Hv
  rw [wp_pure]
  imodintro
  iapply Hk
  isplitl [Hkk]; · iexact Hkk
  iexact Hv

/-- Head 2 of batch entry 1, the weights of head 3. -/
theorem part7_run (Q : (Σ' (v207 : FVec F S256x64 .f32) (v213 : FVec F S256x64 .bf16) (v223 : FVec F S256x1 .f32) (v224 : FVec F S256x256 .bf16), FVec F S256x64 .f32) → sProp 𝕄) :
    iprop(records (X G) K
        ∗ levAts L lv
        ∗ kAt c (G c).k
        ∗ vAt c (G c).v)
      ⊢ iprop((iprop(kAt c (G c).k
            ∗ vAt c (G c).v)
          -∗ Q ⟨(G c).c12, (G c).v13, (G c).r13, (G c).e13, Ins.z13⟩)
        -∗ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 k0_pay2 (G c).q1 (k0_pay24 (G c).q1)) Q) := by
  rw [k0_part7_eq_skeleton]
  unfold k0_part7_skel
  simp only [Prog.bind_lift]
  iintro ⟨#HR, #HL, Hkk, Hv⟩ Hk
  iapply (load_held c (Memref.whole cc0_stg2_0) (Ins.headR 2 1) _ _ _) $$ Hkk
  iintro Hkk
  iapply (load_held c (Memref.whole cc0_stg3_0) (Ins.headR 2 1) _ _ _) $$ Hv
  iintro Hv
  iapply (load_held c (Memref.whole cc0_stg2_0) (Ins.headR 3 1) _ _ _) $$ Hkk
  iintro Hkk
  iapply (load_held c (Memref.whole cc0_stg3_0) (Ins.headR 3 1) _ _ _) $$ Hv
  iintro Hv
  rw [wp_pure]
  imodintro
  iapply Hk
  isplitl [Hkk]; · iexact Hkk
  iexact Hv

/-- Half 0 of batch entry 1: stored, and sent. -/
theorem part8_run (v3 : BitVec 32) (Q : FVec F S256x256 .f32 → sProp 𝕄) :
    iprop(records (X G) K
        ∗ levAts L lv
        ∗ woAt c (G c).wo
        ∗ accAny c 0 1
        ∗ slotAny c 0 0 1
        ∗ idle c (0, 0, 1)
        ∗ lend (partner (0, 0, 1) c) (0, 0, 1)
        ∗ owing c (owedOn c [(0, 0, 1), (1, 0, 1), (0, 1, 0), (1, 1, 0), (0, 1, 1), (1, 1, 1)]))
      ⊢ iprop((iprop(woAt c (G c).wo
            ∗ accAt c 0 1 ((G c).acc1 0 1)
            ∗ sent c (0, 0, 1)
            ∗ owing c (owedOn c [(1, 0, 1), (0, 1, 0), (1, 1, 0), (0, 1, 1), (1, 1, 1)]))
          -∗ Q (G c).pB1)
        -∗ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 (G c).c10 (G c).c11 (G c).c12 (G c).v13 (G c).r13 (G c).e13 Ins.z13) Q) := by
  rw [k0_part8_eq_skeleton]
  unfold k0_part8_skel
  simp only [Prog.bind_lift]
  iintro ⟨#HR, #HL, Ho, A01, S001, C001, L001, HO⟩ Hk
  iapply (load_held c (Memref.whole cc0_stg4_0) (Rect.unit (s := S256x512) ![0, 0] S256x256.size inb_S256x512_S256x256_0_0) _ _ _) $$ Ho
  iintro Ho
  iapply (load_accAny c 0 1 _ _) $$ A01
  iintro %_ A01
  iapply (store_acc c 0 1 ((G c).acc1 0 1) _ _) $$ A01
  iintro A01
  iapply (load_slotAny c 0 0 1 _ _) $$ S001
  iintro %_ S001
  iapply (store_slot c 0 0 1 ((G c).out1 0 1) _ _) $$ S001
  iintro S001
  iapply (send_step (X G) K c _ (0, 0, 1) [(1, 0, 1), (0, 1, 0), (1, 1, 0), (0, 1, 1), (1, 1, 1)] (dev5_eq c) _ _) $$ [C001 L001 S001 HO]
  · isplitr; · iexact HR
    isplitl [C001]; · iexact C001
    isplitl [L001]; · iexact L001
    isplitl [S001]; · iexact S001
    iexact HO
  iintro ⟨C001, HO⟩
  iapply (load_held c (Memref.whole cc0_stg4_0) (Rect.unit (s := S256x512) ![0, 256] S256x256.size inb_S256x512_S256x256_0_256) _ _ _) $$ Ho
  iintro Ho
  rw [wp_pure]
  imodintro
  iapply Hk
  isplitl [Ho]; · iexact Ho
  isplitl [A01]; · iexact A01
  isplitl [C001]; · iexact C001
  iexact HO

/-- Half 1 of batch entry 1: stored, and sent; then the first copy is waited for. -/
theorem part9_run (v4 : BitVec 32) (Q : PUnit → sProp 𝕄) :
    iprop(records (X G) K
        ∗ levAts L lv
        ∗ accAny c 1 1
        ∗ slotAny c 1 0 1
        ∗ idle c (1, 0, 1)
        ∗ lend (partner (1, 0, 1) c) (1, 0, 1)
        ∗ sent c (0, 0, 0)
        ∗ owing c (owedOn c [(1, 0, 1), (0, 1, 0), (1, 1, 0), (0, 1, 1), (1, 1, 1)]))
      ⊢ iprop((iprop(accAt c 1 1 ((G c).acc1 1 1)
            ∗ sent c (1, 0, 1)
            ∗ half c (0, 0, 0)
            ∗ owing c (owedOn c [(0, 1, 0), (1, 1, 0), (0, 1, 1), (1, 1, 1)])
            ∗ slotAt c 0 0 0 (X G c (0, 0, 0)))
          -∗ Q ⟨⟩)
        -∗ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 (G c).pB1) Q) := by
  rw [k0_part9_eq_skeleton]
  unfold k0_part9_skel
  simp only [Prog.bind_lift]
  iintro ⟨#HR, #HL, A11, S101, C101, L101, C000, HO⟩ Hk
  iapply (load_accAny c 1 1 _ _) $$ A11
  iintro %_ A11
  iapply (store_acc c 1 1 ((G c).acc1 1 1) _ _) $$ A11
  iintro A11
  iapply (load_slotAny c 1 0 1 _ _) $$ S101
  iintro %_ S101
  iapply (store_slot c 1 0 1 ((G c).out1 1 1) _ _) $$ S101
  iintro S101
  iapply (send_step (X G) K c _ (1, 0, 1) [(0, 1, 0), (1, 1, 0), (0, 1, 1), (1, 1, 1)] (dev6_eq c) _ _) $$ [C101 L101 S101 HO]
  · isplitr; · iexact HR
    isplitl [C101]; · iexact C101
    isplitl [L101]; · iexact L101
    isplitl [S101]; · iexact S101
    iexact HO
  iintro ⟨C101, HO⟩
  iapply (wait_send_step (X G) K c (0, 0, 0) [(0, 1, 0), (1, 1, 0), (0, 1, 1), (1, 1, 1)] _ _) $$ [C000 HO]
  · isplitr; · iexact HR
    isplitr; · iexact HL
    isplitl [C000]; · iexact C000
    iexact HO
  iintro ⟨C000, S000, HO⟩
  rw [wp_pure]
  imodintro
  iapply Hk
  isplitl [A11]; · iexact A11
  isplitl [C101]; · iexact C101
  isplitl [C000]; · iexact C000
  isplitl [HO]; · iexact HO
  iexact S000

/-- Half 0 of batch entry 0 after the first exchange. -/
theorem part10_run (v3 : BitVec 32) (Q : PUnit → sProp 𝕄) :
    iprop(records (X G) K
        ∗ levAts L lv
        ∗ half c (0, 0, 0)
        ∗ accAt c 0 0 ((G c).acc1 0 0)
        ∗ slotAny c 0 2 0
        ∗ owing c (owedOn c [(0, 1, 0), (1, 1, 0), (0, 1, 1), (1, 1, 1)]))
      ⊢ iprop((iprop(done c (0, 0, 0)
            ∗ accAt c 0 0 (acc2 G c 0 0)
            ∗ slotAt c 0 2 0 (X G c (0, 1, 0))
            ∗ owing c (owedOn c [(0, 1, 0), (1, 1, 0), (0, 1, 1), (1, 1, 1)])
            ∗ slotAt c 0 1 0 (X G (partner (0, 0, 0) c) (0, 0, 0)))
          -∗ Q ⟨⟩)
        -∗ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3) Q) := by
  rw [k0_part10_eq_skeleton]
  unfold k0_part10_skel
  simp only [Prog.bind_lift]
  iintro ⟨#HR, #HL, C000, A00, S020, HO⟩ Hk
  iapply (wait_recv_step (X G) K c (0, 0, 0) [(0, 1, 0), (1, 1, 0), (0, 1, 1), (1, 1, 1)] (by decide) _ _) $$ [C000 HO]
  · isplitr; · iexact HR
    isplitr; · iexact HL
    isplitl [C000]; · iexact C000
    iexact HO
  iintro ⟨C000, S010, HO⟩
  iapply (load_acc c 0 0 _ _ _) $$ A00
  iintro A00
  iapply (load_slot c 0 1 0 _ _ _) $$ S010
  iintro S010
  iapply (load_acc c 0 0 _ _ _) $$ A00
  iintro A00
  ihave A00' := (accAt_any c 0 0 _) $$ A00
  iapply (store_acc c 0 0 (acc2 G c 0 0) _ _) $$ A00'
  iintro A00
  iapply (load_acc c 0 0 _ _ _) $$ A00
  iintro A00
  iapply (load_slotAny c 0 2 0 _ _) $$ S020
  iintro %_ S020
  iapply (store_slot c 0 2 0 (out2 G c 0 0) _ _) $$ S020
  iintro S020
  rw [wp_pure]
  imodintro
  iapply Hk
  isplitl [C000]; · iexact C000
  isplitl [A00]; · iexact A00
  isplitl [S020]; · iexact S020
  isplitl [HO]; · iexact HO
  iexact S010

/-- Its send in the second exchange; the wait for half 1's first copy. -/
theorem part11_run (v4 : BitVec 32) (Q : PUnit → sProp 𝕄) :
    iprop(records (X G) K
        ∗ levAts L lv
        ∗ idle c (0, 1, 0)
        ∗ lend (partner (0, 1, 0) c) (0, 1, 0)
        ∗ slotAt c 0 2 0 (X G c (0, 1, 0))
        ∗ sent c (1, 0, 0)
        ∗ owing c (owedOn c [(0, 1, 0), (1, 1, 0), (0, 1, 1), (1, 1, 1)]))
      ⊢ iprop((iprop(sent c (0, 1, 0)
            ∗ half c (1, 0, 0)
            ∗ owing c (owedOn c [(1, 1, 0), (0, 1, 1), (1, 1, 1)])
            ∗ slotAt c 1 0 0 (X G c (1, 0, 0)))
          -∗ Q ⟨⟩)
        -∗ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4) Q) := by
  rw [k0_part11_eq_skeleton]
  unfold k0_part11_skel
  simp only [Prog.bind_lift]
  iintro ⟨#HR, #HL, C010, L010, S020, C100, HO⟩ Hk
  iapply (send_step (X G) K c _ (0, 1, 0) [(1, 1, 0), (0, 1, 1), (1, 1, 1)] (dev7_eq c) _ _) $$ [C010 L010 S020 HO]
  · isplitr; · iexact HR
    isplitl [C010]; · iexact C010
    isplitl [L010]; · iexact L010
    isplitl [S020]; · iexact S020
    iexact HO
  iintro ⟨C010, HO⟩
  iapply (wait_send_step (X G) K c (1, 0, 0) [(1, 1, 0), (0, 1, 1), (1, 1, 1)] _ _) $$ [C100 HO]
  · isplitr; · iexact HR
    isplitr; · iexact HL
    isplitl [C100]; · iexact C100
    iexact HO
  iintro ⟨C100, S100, HO⟩
  rw [wp_pure]
  imodintro
  iapply Hk
  isplitl [C010]; · iexact C010
  isplitl [C100]; · iexact C100
  isplitl [HO]; · iexact HO
  iexact S100

/-- Half 1 of batch entry 0 after the first exchange. -/
theorem part12_run (v3 : BitVec 32) (Q : PUnit → sProp 𝕄) :
    iprop(records (X G) K
        ∗ levAts L lv
        ∗ half c (1, 0, 0)
        ∗ accAt c 1 0 ((G c).acc1 1 0)
        ∗ slotAny c 1 2 0
        ∗ owing c (owedOn c [(1, 1, 0), (0, 1, 1), (1, 1, 1)]))
      ⊢ iprop((iprop(done c (1, 0, 0)
            ∗ accAt c 1 0 (acc2 G c 1 0)
            ∗ slotAt c 1 2 0 (X G c (1, 1, 0))
            ∗ owing c (owedOn c [(1, 1, 0), (0, 1, 1), (1, 1, 1)])
            ∗ slotAt c 1 1 0 (X G (partner (1, 0, 0) c) (1, 0, 0)))
          -∗ Q ⟨⟩)
        -∗ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3) Q) := by
  rw [k0_part12_eq_skeleton]
  unfold k0_part12_skel
  simp only [Prog.bind_lift]
  iintro ⟨#HR, #HL, C100, A10, S120, HO⟩ Hk
  iapply (wait_recv_step (X G) K c (1, 0, 0) [(1, 1, 0), (0, 1, 1), (1, 1, 1)] (by decide) _ _) $$ [C100 HO]
  · isplitr; · iexact HR
    isplitr; · iexact HL
    isplitl [C100]; · iexact C100
    iexact HO
  iintro ⟨C100, S110, HO⟩
  iapply (load_acc c 1 0 _ _ _) $$ A10
  iintro A10
  iapply (load_slot c 1 1 0 _ _ _) $$ S110
  iintro S110
  iapply (load_acc c 1 0 _ _ _) $$ A10
  iintro A10
  ihave A10' := (accAt_any c 1 0 _) $$ A10
  iapply (store_acc c 1 0 (acc2 G c 1 0) _ _) $$ A10'
  iintro A10
  iapply (load_acc c 1 0 _ _ _) $$ A10
  iintro A10
  iapply (load_slotAny c 1 2 0 _ _) $$ S120
  iintro %_ S120
  iapply (store_slot c 1 2 0 (out2 G c 1 0) _ _) $$ S120
  iintro S120
  rw [wp_pure]
  imodintro
  iapply Hk
  isplitl [C100]; · iexact C100
  isplitl [A10]; · iexact A10
  isplitl [S120]; · iexact S120
  isplitl [HO]; · iexact HO
  iexact S110

/-- Its send in the second exchange; half 0 of batch entry 1 arrives. -/
theorem part13_run (v3 : BitVec 32) (Q : FVec F S256x256 .f32 → sProp 𝕄) :
    iprop(records (X G) K
        ∗ levAts L lv
        ∗ idle c (1, 1, 0)
        ∗ lend (partner (1, 1, 0) c) (1, 1, 0)
        ∗ slotAt c 1 2 0 (X G c (1, 1, 0))
        ∗ sent c (0, 0, 1)
        ∗ accAt c 0 1 ((G c).acc1 0 1)
        ∗ owing c (owedOn c [(1, 1, 0), (0, 1, 1), (1, 1, 1)]))
      ⊢ iprop((iprop(sent c (1, 1, 0)
            ∗ done c (0, 0, 1)
            ∗ accAt c 0 1 ((G c).acc1 0 1)
            ∗ owing c (owedOn c [(0, 1, 1), (1, 1, 1)])
            ∗ slotAt c 0 0 1 (X G c (0, 0, 1))
            ∗ slotAt c 0 1 1 (X G (partner (0, 0, 1) c) (0, 0, 1)))
          -∗ Q (k0_pay41 ((G c).acc1 0 1) (us (X1 G (partner (0, 0, 1) c) 0 1))))
        -∗ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3) Q) := by
  rw [k0_part13_eq_skeleton]
  unfold k0_part13_skel
  simp only [Prog.bind_lift]
  iintro ⟨#HR, #HL, C110, L110, S120, C001, A01, HO⟩ Hk
  iapply (send_step (X G) K c _ (1, 1, 0) [(0, 1, 1), (1, 1, 1)] (dev8_eq c) _ _) $$ [C110 L110 S120 HO]
  · isplitr; · iexact HR
    isplitl [C110]; · iexact C110
    isplitl [L110]; · iexact L110
    isplitl [S120]; · iexact S120
    iexact HO
  iintro ⟨C110, HO⟩
  iapply (wait_send_step (X G) K c (0, 0, 1) [(0, 1, 1), (1, 1, 1)] _ _) $$ [C001 HO]
  · isplitr; · iexact HR
    isplitr; · iexact HL
    isplitl [C001]; · iexact C001
    iexact HO
  iintro ⟨C001, S001, HO⟩
  iapply (wait_recv_step (X G) K c (0, 0, 1) [(0, 1, 1), (1, 1, 1)] (by decide) _ _) $$ [C001 HO]
  · isplitr; · iexact HR
    isplitr; · iexact HL
    isplitl [C001]; · iexact C001
    iexact HO
  iintro ⟨C001, S011, HO⟩
  iapply (load_acc c 0 1 _ _ _) $$ A01
  iintro A01
  iapply (load_slot c 0 1 1 _ _ _) $$ S011
  iintro S011
  rw [wp_pure]
  imodintro
  iapply Hk
  isplitl [C110]; · iexact C110
  isplitl [C001]; · iexact C001
  isplitl [A01]; · iexact A01
  isplitl [HO]; · iexact HO
  isplitl [S001]; · iexact S001
  iexact S011

/-- Half 0 of batch entry 1: stored, and sent in the second exchange. -/
theorem part14_run (v4 : BitVec 32) (Q : PUnit → sProp 𝕄) :
    iprop(records (X G) K
        ∗ levAts L lv
        ∗ accAt c 0 1 ((G c).acc1 0 1)
        ∗ slotAny c 0 2 1
        ∗ idle c (0, 1, 1)
        ∗ lend (partner (0, 1, 1) c) (0, 1, 1)
        ∗ owing c (owedOn c [(0, 1, 1), (1, 1, 1)]))
      ⊢ iprop((iprop(accAt c 0 1 (acc2 G c 0 1)
            ∗ sent c (0, 1, 1)
            ∗ owing c (owedOn c [(1, 1, 1)]))
          -∗ Q ⟨⟩)
        -∗ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 (k0_pay41 ((G c).acc1 0 1) (us (X1 G (partner (0, 0, 1) c) 0 1)))) Q) := by
  rw [k0_part14_eq_skeleton]
  unfold k0_part14_skel
  simp only [Prog.bind_lift]
  iintro ⟨#HR, #HL, A01, S021, C011, L011, HO⟩ Hk
  iapply (load_acc c 0 1 _ _ _) $$ A01
  iintro A01
  ihave A01' := (accAt_any c 0 1 _) $$ A01
  iapply (store_acc c 0 1 (acc2 G c 0 1) _ _) $$ A01'
  iintro A01
  iapply (load_acc c 0 1 _ _ _) $$ A01
  iintro A01
  iapply (load_slotAny c 0 2 1 _ _) $$ S021
  iintro %_ S021
  iapply (store_slot c 0 2 1 (out2 G c 0 1) _ _) $$ S021
  iintro S021
  iapply (send_step (X G) K c _ (0, 1, 1) [(1, 1, 1)] (dev9_eq c) _ _) $$ [C011 L011 S021 HO]
  · isplitr; · iexact HR
    isplitl [C011]; · iexact C011
    isplitl [L011]; · iexact L011
    isplitl [S021]; · iexact S021
    iexact HO
  iintro ⟨C011, HO⟩
  rw [wp_pure]
  imodintro
  iapply Hk
  isplitl [A01]; · iexact A01
  isplitl [C011]; · iexact C011
  iexact HO

/-- Half 1 of batch entry 1 after the first exchange. -/
theorem part15_run (v4 : BitVec 32) (Q : FVec F S256x256 .bf16 → sProp 𝕄) :
    iprop(records (X G) K
        ∗ levAts L lv
        ∗ sent c (1, 0, 1)
        ∗ accAt c 1 1 ((G c).acc1 1 1)
        ∗ slotAny c 1 2 1
        ∗ owing c (owedOn c [(1, 1, 1)]))
      ⊢ iprop((iprop(done c (1, 0, 1)
            ∗ accAt c 1 1 (acc2 G c 1 1)
            ∗ slotAny c 1 2 1
            ∗ owing c (owedOn c [(1, 1, 1)])
            ∗ slotAt c 1 0 1 (X G c (1, 0, 1))
            ∗ slotAt c 1 1 1 (X G (partner (1, 0, 1) c) (1, 0, 1)))
          -∗ Q (k0_pay45 (acc2 G c 1 1)))
        -∗ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4) Q) := by
  rw [k0_part15_eq_skeleton]
  unfold k0_part15_skel
  simp only [Prog.bind_lift]
  iintro ⟨#HR, #HL, C101, A11, S121, HO⟩ Hk
  iapply (wait_send_step (X G) K c (1, 0, 1) [(1, 1, 1)] _ _) $$ [C101 HO]
  · isplitr; · iexact HR
    isplitr; · iexact HL
    isplitl [C101]; · iexact C101
    iexact HO
  iintro ⟨C101, S101, HO⟩
  iapply (wait_recv_step (X G) K c (1, 0, 1) [(1, 1, 1)] (by decide) _ _) $$ [C101 HO]
  · isplitr; · iexact HR
    isplitr; · iexact HL
    isplitl [C101]; · iexact C101
    iexact HO
  iintro ⟨C101, S111, HO⟩
  iapply (load_acc c 1 1 _ _ _) $$ A11
  iintro A11
  iapply (load_slot c 1 1 1 _ _ _) $$ S111
  iintro S111
  iapply (load_acc c 1 1 _ _ _) $$ A11
  iintro A11
  ihave A11' := (accAt_any c 1 1 _) $$ A11
  iapply (store_acc c 1 1 (acc2 G c 1 1) _ _) $$ A11'
  iintro A11
  iapply (load_acc c 1 1 _ _ _) $$ A11
  iintro A11
  iapply (load_slotAny c 1 2 1 _ _) $$ S121
  iintro %_ S121
  rw [wp_pure]
  imodintro
  iapply Hk
  isplitl [C101]; · iexact C101
  isplitl [A11]; · iexact A11
  isplitl [S121]; · iexact S121
  isplitl [HO]; · iexact HO
  isplitl [S101]; · iexact S101
  iexact S111

/-- Its send in the second exchange; the wait for half 0's copy of batch entry 0. -/
theorem part16_run (v3 v4 : BitVec 32) (Q : PUnit → sProp 𝕄) :
    iprop(records (X G) K
        ∗ levAts L lv
        ∗ slotAny c 1 2 1
        ∗ idle c (1, 1, 1)
        ∗ lend (partner (1, 1, 1) c) (1, 1, 1)
        ∗ sent c (0, 1, 0)
        ∗ owing c (owedOn c [(1, 1, 1)]))
      ⊢ iprop((iprop(sent c (1, 1, 1)
            ∗ half c (0, 1, 0)
            ∗ owing c (owedOn c [])
            ∗ slotAt c 0 2 0 (X G c (0, 1, 0)))
          -∗ Q ⟨⟩)
        -∗ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (k0_pay45 (acc2 G c 1 1))) Q) := by
  rw [k0_part16_eq_skeleton]
  unfold k0_part16_skel
  simp only [Prog.bind_lift]
  iintro ⟨#HR, #HL, S121, C111, L111, C010, HO⟩ Hk
  iapply (store_slot c 1 2 1 (out2 G c 1 1) _ _) $$ S121
  iintro S121
  iapply (send_step (X G) K c _ (1, 1, 1) [] (dev10_eq c) _ _) $$ [C111 L111 S121 HO]
  · isplitr; · iexact HR
    isplitl [C111]; · iexact C111
    isplitl [L111]; · iexact L111
    isplitl [S121]; · iexact S121
    iexact HO
  iintro ⟨C111, HO⟩
  iapply (wait_send_step (X G) K c (0, 1, 0) [] _ _) $$ [C010 HO]
  · isplitr; · iexact HR
    isplitr; · iexact HL
    isplitl [C010]; · iexact C010
    iexact HO
  iintro ⟨C010, S020, HO⟩
  rw [wp_pure]
  imodintro
  iapply Hk
  isplitl [C111]; · iexact C111
  isplitl [C010]; · iexact C010
  isplitl [HO]; · iexact HO
  iexact S020

/-- Half 0 of batch entry 0 arrives again, and its quarter of the result is stored. -/
theorem part17_run (f : Vec F S2x256x512 .f32) (v3 : BitVec 32) (Q : BitVec 32 → sProp 𝕄) :
    iprop(records (X G) K
        ∗ levAts L lv
        ∗ half c (0, 1, 0)
        ∗ accAt c 0 0 (acc2 G c 0 0)
        ∗ outAt c f
        ∗ sent c (1, 1, 0)
        ∗ owing c (owedOn c []))
      ⊢ iprop((iprop(done c (0, 1, 0)
            ∗ accAt c 0 0 (acc2 G c 0 0)
            ∗ outAt c (put 0 0 f (res G c 0 0))
            ∗ half c (1, 1, 0)
            ∗ owing c (owedOn c [])
            ∗ slotAt c 0 3 0 (X G (partner (0, 1, 0) c) (0, 1, 0))
            ∗ slotAt c 1 2 0 (X G c (1, 1, 0)))
          -∗ Q (Scalar.muli v3 1#32))
        -∗ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3) Q) := by
  rw [k0_part17_eq_skeleton]
  unfold k0_part17_skel
  simp only [Prog.bind_lift]
  iintro ⟨#HR, #HL, C010, A00, Hout, C110, HO⟩ Hk
  iapply (wait_recv_step (X G) K c (0, 1, 0) [] (by decide) _ _) $$ [C010 HO]
  · isplitr; · iexact HR
    isplitr; · iexact HL
    isplitl [C010]; · iexact C010
    iexact HO
  iintro ⟨C010, S030, HO⟩
  iapply (load_acc c 0 0 _ _ _) $$ A00
  iintro A00
  iapply (load_slot c 0 3 0 _ _ _) $$ S030
  iintro S030
  iapply (load_held c (Memref.whole cc0_stg5_0) (outR 0 0) _ _ _) $$ Hout
  iintro Hout
  iapply (store_held c (Memref.whole cc0_stg5_0) (outR 0 0) (res G c 0 0) _ _ _) $$ Hout
  iintro Hout
  iapply (wait_send_step (X G) K c (1, 1, 0) [] _ _) $$ [C110 HO]
  · isplitr; · iexact HR
    isplitr; · iexact HL
    isplitl [C110]; · iexact C110
    iexact HO
  iintro ⟨C110, S120, HO⟩
  rw [wp_pure]
  imodintro
  iapply Hk
  isplitl [C010]; · iexact C010
  isplitl [A00]; · iexact A00
  isplitl [Hout]; · iexact Hout
  isplitl [C110]; · iexact C110
  isplitl [HO]; · iexact HO
  isplitl [S030]; · iexact S030
  iexact S120

/-- Half 1 of batch entry 0 arrives again, and its quarter of the result is stored. -/
theorem part18_run (f : Vec F S2x256x512 .f32) (v455 : BitVec 32) (Q : PUnit → sProp 𝕄) :
    iprop(records (X G) K
        ∗ levAts L lv
        ∗ half c (1, 1, 0)
        ∗ accAt c 1 0 (acc2 G c 1 0)
        ∗ outAt c f
        ∗ sent c (0, 1, 1)
        ∗ owing c (owedOn c []))
      ⊢ iprop((iprop(done c (1, 1, 0)
            ∗ accAt c 1 0 (acc2 G c 1 0)
            ∗ outAt c (put 1 0 f (res G c 1 0))
            ∗ half c (0, 1, 1)
            ∗ owing c (owedOn c [])
            ∗ slotAt c 1 3 0 (X G (partner (1, 1, 0) c) (1, 1, 0))
            ∗ slotAt c 0 2 1 (X G c (0, 1, 1)))
          -∗ Q ⟨⟩)
        -∗ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v455) Q) := by
  rw [k0_part18_eq_skeleton]
  unfold k0_part18_skel
  simp only [Prog.bind_lift]
  iintro ⟨#HR, #HL, C110, A10, Hout, C011, HO⟩ Hk
  iapply (wait_recv_step (X G) K c (1, 1, 0) [] (by decide) _ _) $$ [C110 HO]
  · isplitr; · iexact HR
    isplitr; · iexact HL
    isplitl [C110]; · iexact C110
    iexact HO
  iintro ⟨C110, S130, HO⟩
  iapply (load_acc c 1 0 _ _ _) $$ A10
  iintro A10
  iapply (load_slot c 1 3 0 _ _ _) $$ S130
  iintro S130
  iapply (load_held c (Memref.whole cc0_stg5_0) (outR 1 0) _ _ _) $$ Hout
  iintro Hout
  iapply (store_held c (Memref.whole cc0_stg5_0) (outR 1 0) (res G c 1 0) _ _ _) $$ Hout
  iintro Hout
  iapply (wait_send_step (X G) K c (0, 1, 1) [] _ _) $$ [C011 HO]
  · isplitr; · iexact HR
    isplitr; · iexact HL
    isplitl [C011]; · iexact C011
    iexact HO
  iintro ⟨C011, S021, HO⟩
  rw [wp_pure]
  imodintro
  iapply Hk
  isplitl [C110]; · iexact C110
  isplitl [A10]; · iexact A10
  isplitl [Hout]; · iexact Hout
  isplitl [C011]; · iexact C011
  isplitl [HO]; · iexact HO
  isplitl [S130]; · iexact S130
  iexact S021

/-- Half 0 of batch entry 1 arrives again, and its quarter of the result is stored. -/
theorem part19_run (f : Vec F S2x256x512 .f32) (v4 : BitVec 32) (Q : PUnit → sProp 𝕄) :
    iprop(records (X G) K
        ∗ levAts L lv
        ∗ half c (0, 1, 1)
        ∗ accAt c 0 1 (acc2 G c 0 1)
        ∗ outAt c f
        ∗ sent c (1, 1, 1)
        ∗ owing c (owedOn c []))
      ⊢ iprop((iprop(done c (0, 1, 1)
            ∗ accAt c 0 1 (acc2 G c 0 1)
            ∗ outAt c (put 0 1 f (res G c 0 1))
            ∗ half c (1, 1, 1)
            ∗ owing c (owedOn c [])
            ∗ slotAt c 0 3 1 (X G (partner (0, 1, 1) c) (0, 1, 1))
            ∗ slotAt c 1 2 1 (X G c (1, 1, 1)))
          -∗ Q ⟨⟩)
        -∗ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4) Q) := by
  rw [k0_part19_eq_skeleton]
  unfold k0_part19_skel
  simp only [Prog.bind_lift]
  iintro ⟨#HR, #HL, C011, A01, Hout, C111, HO⟩ Hk
  iapply (wait_recv_step (X G) K c (0, 1, 1) [] (by decide) _ _) $$ [C011 HO]
  · isplitr; · iexact HR
    isplitr; · iexact HL
    isplitl [C011]; · iexact C011
    iexact HO
  iintro ⟨C011, S031, HO⟩
  iapply (load_acc c 0 1 _ _ _) $$ A01
  iintro A01
  iapply (load_slot c 0 3 1 _ _ _) $$ S031
  iintro S031
  iapply (load_held c (Memref.whole cc0_stg5_0) (outR 0 1) _ _ _) $$ Hout
  iintro Hout
  iapply (store_held c (Memref.whole cc0_stg5_0) (outR 0 1) (res G c 0 1) _ _ _) $$ Hout
  iintro Hout
  iapply (wait_send_step (X G) K c (1, 1, 1) [] _ _) $$ [C111 HO]
  · isplitr; · iexact HR
    isplitr; · iexact HL
    isplitl [C111]; · iexact C111
    iexact HO
  iintro ⟨C111, S121, HO⟩
  rw [wp_pure]
  imodintro
  iapply Hk
  isplitl [C011]; · iexact C011
  isplitl [A01]; · iexact A01
  isplitl [Hout]; · iexact Hout
  isplitl [C111]; · iexact C111
  isplitl [HO]; · iexact HO
  isplitl [S031]; · iexact S031
  iexact S121

end Cert.KernelIdealProof

end
-- ==== Proof.KernelIdeal.Body.lean ====
/- The run of the kernel's whole body: its parts in order, then its last operations and the closing of every cell. -/
module

public import proofs.«01_k».proof.Proof.KernelIdeal.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dev nD → Ins F) (c : Dev nD)

/-- The quarters of the result, one after the other over `f`. -/
abbrev outF (f : Vec F S2x256x512 .f32) : Vec F S2x256x512 .f32 := put 1 1 (put 0 1 (put 1 0 (put 0 0 f (res G c 0 0)) (res G c 1 0)) (res G c 0 1)) (res G c 1 1)

variable (K : GSem nD τ sig → ℕ)

/-- What the first partner's barrier unit hands a device: the four landing slots it lends for the channels between the two. -/
theorem barPay_zero : (barPay c 0 : sProp 𝕄) = iprop(lend (partner (0, 0, 0) c) (0, 0, 0) ∗ lend (partner (0, 0, 1) c) (0, 0, 1)
    ∗ lend (partner (1, 1, 0) c) (1, 1, 0) ∗ lend (partner (1, 1, 1) c) (1, 1, 1)) := rfl
/-- What the second partner's barrier unit hands a device, likewise. -/
theorem barPay_one : (barPay c 1 : sProp 𝕄) = iprop(lend (partner (1, 0, 0) c) (1, 0, 0) ∗ lend (partner (1, 0, 1) c) (1, 0, 1)
    ∗ lend (partner (0, 1, 0) c) (0, 1, 0) ∗ lend (partner (0, 1, 1) c) (0, 1, 1)) := rfl

/-- A channel's two counters at zero. -/
def closed (ch : Chan) : sProp 𝕄 := iprop(semVal (sendCell c ch) 0 ∗ semVal (recvCell c ch) 0)

/-- A device's barrier cell closes after its one round. -/
theorem bar_close (Y : Dev nD → Chan → FVec F S256x256 .bf16) : iprop(records Y K ∗ atPos ER (barCell c) (0 + 1) ∅ 0) ⊢ (|={Set.univ}=> semVal (barCell c) 0 : sProp 𝕄) := by
  iintro ⟨#HR, H⟩
  ihave #HI := (records_bar Y K c) $$ HR
  iapply (close Y (K (barCell c)) (barCell c))
  isplitr; · iexact HI
  iexact H

/-- A channel's two cells close after their one round. -/
theorem done_close (Y : Dev nD → Chan → FVec F S256x256 .bf16) (ch : Chan) : iprop(records Y K ∗ done c ch) ⊢ (|={Set.univ}=> closed c ch : sProp 𝕄) := by
  unfold done closed
  iintro ⟨#HR, H1, H2⟩
  ihave #HIs := (records_send Y K c ch) $$ HR
  ihave #HIr := (records_recv Y K c ch) $$ HR
  imod (close Y (K (sendCell c ch)) (sendCell c ch)) $$ [H1] with H1
  · isplitr; · iexact HIs
    iexact H1
  imod (close Y (K (recvCell c ch)) (recvCell c ch)) $$ [H2] with H2
  · isplitr; · iexact HIr
    iexact H2
  imodintro
  isplitl [H1] <;> iassumption

set_option maxHeartbeats 1600000 in
/-- The body's run: from the talk's ghost state, the scratch buffers and the blocks, to the result, every cell closed. -/
theorem body_run (f : Vec F S2x256x512 .f32) (Q : PUnit → sProp 𝕄) :
    iprop(records (X G) K
        ∗ levAts L lv
        ∗ atPos ER (barCell c) 0 ∅ 0
        ∗ cred (tallyAt (barCell c) () 2)
        ∗ dutyTok ER (barCell (xp c)) 0 0
        ∗ dutyTok ER (barCell (yp c)) 0 1
        ∗ barPay (xp c) 0
        ∗ barPay (yp c) 1
        ∗ idle c (0, 0, 0)
        ∗ idle c (1, 0, 0)
        ∗ idle c (0, 0, 1)
        ∗ idle c (1, 0, 1)
        ∗ idle c (0, 1, 0)
        ∗ idle c (1, 1, 0)
        ∗ idle c (0, 1, 1)
        ∗ idle c (1, 1, 1)
        ∗ accAny c 0 0
        ∗ accAny c 0 1
        ∗ accAny c 1 0
        ∗ accAny c 1 1
        ∗ slotAny c 0 0 0
        ∗ slotAny c 0 0 1
        ∗ slotAny c 0 2 0
        ∗ slotAny c 0 2 1
        ∗ slotAny c 1 0 0
        ∗ slotAny c 1 0 1
        ∗ slotAny c 1 2 0
        ∗ slotAny c 1 2 1
        ∗ xAt c (G c).x
        ∗ wqAt c (G c).wq
        ∗ kAt c (G c).k
        ∗ vAt c (G c).v
        ∗ woAt c (G c).wo
        ∗ outAt c f
        ∗ owing c (O₀ c))
      ⊢ iprop((iprop(semVal (barCell c) 0
            ∗ xAt c (G c).x
            ∗ wqAt c (G c).wq
            ∗ kAt c (G c).k
            ∗ vAt c (G c).v
            ∗ woAt c (G c).wo
            ∗ slotAt c 0 0 0 (X G c (0, 0, 0))
            ∗ closed c (0, 0, 0)
            ∗ slotAt c 0 1 0 (X G (partner (0, 0, 0) c) (0, 0, 0))
            ∗ slotAt c 1 0 0 (X G c (1, 0, 0))
            ∗ closed c (1, 0, 0)
            ∗ slotAt c 1 1 0 (X G (partner (1, 0, 0) c) (1, 0, 0))
            ∗ closed c (0, 0, 1)
            ∗ slotAt c 0 0 1 (X G c (0, 0, 1))
            ∗ slotAt c 0 1 1 (X G (partner (0, 0, 1) c) (0, 0, 1))
            ∗ closed c (1, 0, 1)
            ∗ accAt c 1 1 (acc2 G c 1 1)
            ∗ slotAt c 1 0 1 (X G c (1, 0, 1))
            ∗ slotAt c 1 1 1 (X G (partner (1, 0, 1) c) (1, 0, 1))
            ∗ slotAt c 0 2 0 (X G c (0, 1, 0))
            ∗ closed c (0, 1, 0)
            ∗ accAt c 0 0 (acc2 G c 0 0)
            ∗ slotAt c 0 3 0 (X G (partner (0, 1, 0) c) (0, 1, 0))
            ∗ slotAt c 1 2 0 (X G c (1, 1, 0))
            ∗ closed c (1, 1, 0)
            ∗ accAt c 1 0 (acc2 G c 1 0)
            ∗ slotAt c 1 3 0 (X G (partner (1, 1, 0) c) (1, 1, 0))
            ∗ slotAt c 0 2 1 (X G c (0, 1, 1))
            ∗ closed c (0, 1, 1)
            ∗ accAt c 0 1 (acc2 G c 0 1)
            ∗ outAt c (outF G c f)
            ∗ closed c (1, 1, 1)
            ∗ owing c (owedOn c [])
            ∗ slotAt c 0 3 1 (X G (partner (0, 1, 1) c) (0, 1, 1))
            ∗ slotAt c 1 2 1 (X G c (1, 1, 1))
            ∗ slotAt c 1 3 1 (X G (partner (1, 1, 1) c) (1, 1, 1)))
          -∗ Q ⟨⟩)
        -∗ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]
  unfold cc0_body_skel
  iintro ⟨#HR, #HL, HB, CB, TX, TY, BX, BY, C000, C100, C001, C101, C010, C110, C011, C111, A00, A01, A10, A11, S000, S001, S020, S021, S100, S101, S120, S121, Hx, Hw, Hkk, Hv, Ho, Hout, HO⟩ Hk
  rw [wp_bind]
  iapply (part1_run G K c _) $$ [TX TY BX BY HB CB Hx Hw Hkk Hv HO]
  · isplitr; · iexact HR
    isplitr; · iexact HL
    isplitl [TX]; · iexact TX
    isplitl [TY]; · iexact TY
    isplitl [BX]; · iexact BX
    isplitl [BY]; · iexact BY
    isplitl [HB]; · iexact HB
    isplitl [CB]; · iexact CB
    isplitl [Hx]; · iexact Hx
    isplitl [Hw]; · iexact Hw
    isplitl [Hkk]; · iexact Hkk
    isplitl [Hv]; · iexact Hv
    iexact HO
  iintro ⟨HB, Hx, Hw, Hkk, Hv, HO, B0, B1⟩
  ihave B0' := (Entails.of_eq (barPay_zero c)) $$ B0
  ihave B1' := (Entails.of_eq (barPay_one c)) $$ B1
  icases B0' with ⟨L000, L001, L110, L111⟩
  icases B1' with ⟨L100, L101, L010, L011⟩
  dsimp only
  rw [wp_bind]
  iapply (part2_run G K c _) $$ [Hkk Hv]
  · isplitr; · iexact HR
    isplitr; · iexact HL
    isplitl [Hkk]; · iexact Hkk
    iexact Hv
  iintro ⟨Hkk, Hv⟩
  dsimp only
  rw [wp_bind]
  iapply (part3_run G K c _) $$ [Hkk Hv]
  · isplitr; · iexact HR
    isplitr; · iexact HL
    isplitl [Hkk]; · iexact Hkk
    iexact Hv
  iintro ⟨Hkk, Hv⟩
  dsimp only
  rw [wp_bind]
  iapply (part4_run G K c _ _) $$ [Ho A00 S000 C000 L000 A10 HO]
  · isplitr; · iexact HR
    isplitr; · iexact HL
    isplitl [Ho]; · iexact Ho
    isplitl [A00]; · iexact A00
    isplitl [S000]; · iexact S000
    isplitl [C000]; · iexact C000
    isplitl [L000]; · iexact L000
    isplitl [A10]; · iexact A10
    iexact HO
  iintro ⟨Ho, A00, C000, A10, HO⟩
  rw [wp_bind]
  iapply (part5_run G K c _ _) $$ [A10 S100 C100 L100 Hx Hw Hkk Hv HO]
  · isplitr; · iexact HR
    isplitr; · iexact HL
    isplitl [A10]; · iexact A10
    isplitl [S100]; · iexact S100
    isplitl [C100]; · iexact C100
    isplitl [L100]; · iexact L100
    isplitl [Hx]; · iexact Hx
    isplitl [Hw]; · iexact Hw
    isplitl [Hkk]; · iexact Hkk
    isplitl [Hv]; · iexact Hv
    iexact HO
  iintro ⟨A10, C100, Hx, Hw, Hkk, Hv, HO⟩
  dsimp only
  rw [wp_bind]
  iapply (part6_run G K c _) $$ [Hkk Hv]
  · isplitr; · iexact HR
    isplitr; · iexact HL
    isplitl [Hkk]; · iexact Hkk
    iexact Hv
  iintro ⟨Hkk, Hv⟩
  dsimp only
  rw [wp_bind]
  iapply (part7_run G K c _) $$ [Hkk Hv]
  · isplitr; · iexact HR
    isplitr; · iexact HL
    isplitl [Hkk]; · iexact Hkk
    iexact Hv
  iintro ⟨Hkk, Hv⟩
  dsimp only
  rw [wp_bind]
  iapply (part8_run G K c _ _) $$ [Ho A01 S001 C001 L001 HO]
  · isplitr; · iexact HR
    isplitr; · iexact HL
    isplitl [Ho]; · iexact Ho
    isplitl [A01]; · iexact A01
    isplitl [S001]; · iexact S001
    isplitl [C001]; · iexact C001
    isplitl [L001]; · iexact L001
    iexact HO
  iintro ⟨Ho, A01, C001, HO⟩
  rw [wp_bind]
  iapply (part9_run G K c _ _) $$ [A11 S101 C101 L101 C000 HO]
  · isplitr; · iexact HR
    isplitr; · iexact HL
    isplitl [A11]; · iexact A11
    isplitl [S101]; · iexact S101
    isplitl [C101]; · iexact C101
    isplitl [L101]; · iexact L101
    isplitl [C000]; · iexact C000
    iexact HO
  iintro ⟨A11, C101, C000, HO, S000⟩
  rw [wp_bind]
  iapply (part10_run G K c _ _) $$ [C000 A00 S020 HO]
  · isplitr; · iexact HR
    isplitr; · iexact HL
    isplitl [C000]; · iexact C000
    isplitl [A00]; · iexact A00
    isplitl [S020]; · iexact S020
    iexact HO
  iintro ⟨C000, A00, S020, HO, S010⟩
  rw [wp_bind]
  iapply (part11_run G K c _ _) $$ [C010 L010 S020 C100 HO]
  · isplitr; · iexact HR
    isplitr; · iexact HL
    isplitl [C010]; · iexact C010
    isplitl [L010]; · iexact L010
    isplitl [S020]; · iexact S020
    isplitl [C100]; · iexact C100
    iexact HO
  iintro ⟨C010, C100, HO, S100⟩
  rw [wp_bind]
  iapply (part12_run G K c _ _) $$ [C100 A10 S120 HO]
  · isplitr; · iexact HR
    isplitr; · iexact HL
    isplitl [C100]; · iexact C100
    isplitl [A10]; · iexact A10
    isplitl [S120]; · iexact S120
    iexact HO
  iintro ⟨C100, A10, S120, HO, S110⟩
  rw [wp_bind]
  iapply (part13_run G K c _ _) $$ [C110 L110 S120 C001 A01 HO]
  · isplitr; · iexact HR
    isplitr; · iexact HL
    isplitl [C110]; · iexact C110
    isplitl [L110]; · iexact L110
    isplitl [S120]; · iexact S120
    isplitl [C001]; · iexact C001
    isplitl [A01]; · iexact A01
    iexact HO
  iintro ⟨C110, C001, A01, HO, S001, S011⟩
  rw [wp_bind]
  iapply (part14_run G K c _ _) $$ [A01 S021 C011 L011 HO]
  · isplitr; · iexact HR
    isplitr; · iexact HL
    isplitl [A01]; · iexact A01
    isplitl [S021]; · iexact S021
    isplitl [C011]; · iexact C011
    isplitl [L011]; · iexact L011
    iexact HO
  iintro ⟨A01, C011, HO⟩
  rw [wp_bind]
  iapply (part15_run G K c _ _) $$ [C101 A11 S121 HO]
  · isplitr; · iexact HR
    isplitr; · iexact HL
    isplitl [C101]; · iexact C101
    isplitl [A11]; · iexact A11
    isplitl [S121]; · iexact S121
    iexact HO
  iintro ⟨C101, A11, S121, HO, S101, S111⟩
  rw [wp_bind]
  iapply (part16_run G K c _ _ _) $$ [S121 C111 L111 C010 HO]
  · isplitr; · iexact HR
    isplitr; · iexact HL
    isplitl [S121]; · iexact S121
    isplitl [C111]; · iexact C111
    isplitl [L111]; · iexact L111
    isplitl [C010]; · iexact C010
    iexact HO
  iintro ⟨C111, C010, HO, S020⟩
  rw [wp_bind]
  iapply (part17_run G K c (f) _ _) $$ [C010 A00 Hout C110 HO]
  · isplitr; · iexact HR
    isplitr; · iexact HL
    isplitl [C010]; · iexact C010
    isplitl [A00]; · iexact A00
    isplitl [Hout]; · iexact Hout
    isplitl [C110]; · iexact C110
    iexact HO
  iintro ⟨C010, A00, Hout, C110, HO, S030, S120⟩
  rw [wp_bind]
  iapply (part18_run G K c (put 0 0 f (res G c 0 0)) _ _) $$ [C110 A10 Hout C011 HO]
  · isplitr; · iexact HR
    isplitr; · iexact HL
    isplitl [C110]; · iexact C110
    isplitl [A10]; · iexact A10
    isplitl [Hout]; · iexact Hout
    isplitl [C011]; · iexact C011
    iexact HO
  iintro ⟨C110, A10, Hout, C011, HO, S130, S021⟩
  rw [wp_bind]
  iapply (part19_run G K c (put 1 0 (put 0 0 f (res G c 0 0)) (res G c 1 0)) _ _) $$ [C011 A01 Hout C111 HO]
  · isplitr; · iexact HR
    isplitr; · iexact HL
    isplitl [C011]; · iexact C011
    isplitl [A01]; · iexact A01
    isplitl [Hout]; · iexact Hout
    isplitl [C111]; · iexact C111
    iexact HO
  iintro ⟨C011, A01, Hout, C111, HO, S031, S121⟩
  simp only [Prog.bind_lift]
  iapply (wait_recv_step (X G) K c (1, 1, 1) [] (by decide) _ _) $$ [C111 HO]
  · isplitr; · iexact HR
    isplitr; · iexact HL
    isplitl [C111]; · iexact C111
    iexact HO
  iintro ⟨C111, S131, HO⟩
  iapply (load_acc c 1 1 _ _ _) $$ A11
  iintro A11
  iapply (load_slot c 1 3 1 _ _ _) $$ S131
  iintro S131
  iapply (load_held c (Memref.whole cc0_stg5_0) (outR 1 1) _ _ _) $$ Hout
  iintro Hout
  iapply (store_held c (Memref.whole cc0_stg5_0) (outR 1 1) (res G c 1 1) _ _ _) $$ Hout
  iintro Hout
  rw [wp_pure]
  imod (bar_close c K (X G)) $$ [HB] with HB
  · isplitr; · iexact HR
    iexact HB
  imod (done_close c K (X G) (0, 0, 0)) $$ [C000] with C000
  · isplitr; · iexact HR
    iexact C000
  imod (done_close c K (X G) (1, 0, 0)) $$ [C100] with C100
  · isplitr; · iexact HR
    iexact C100
  imod (done_close c K (X G) (0, 0, 1)) $$ [C001] with C001
  · isplitr; · iexact HR
    iexact C001
  imod (done_close c K (X G) (1, 0, 1)) $$ [C101] with C101
  · isplitr; · iexact HR
    iexact C101
  imod (done_close c K (X G) (0, 1, 0)) $$ [C010] with C010
  · isplitr; · iexact HR
    iexact C010
  imod (done_close c K (X G) (1, 1, 0)) $$ [C110] with C110
  · isplitr; · iexact HR
    iexact C110
  imod (done_close c K (X G) (0, 1, 1)) $$ [C011] with C011
  · isplitr; · iexact HR
    iexact C011
  imod (done_close c K (X G) (1, 1, 1)) $$ [C111] with C111
  · isplitr; · iexact HR
    iexact C111
  imodintro
  iapply Hk
  isplitl [HB]; · iexact HB
  isplitl [Hx]; · iexact Hx
  isplitl [Hw]; · iexact Hw
  isplitl [Hkk]; · iexact Hkk
  isplitl [Hv]; · iexact Hv
  isplitl [Ho]; · iexact Ho
  isplitl [S000]; · iexact S000
  isplitl [C000]; · iexact C000
  isplitl [S010]; · iexact S010
  isplitl [S100]; · iexact S100
  isplitl [C100]; · iexact C100
  isplitl [S110]; · iexact S110
  isplitl [C001]; · iexact C001
  isplitl [S001]; · iexact S001
  isplitl [S011]; · iexact S011
  isplitl [C101]; · iexact C101
  isplitl [A11]; · iexact A11
  isplitl [S101]; · iexact S101
  isplitl [S111]; · iexact S111
  isplitl [S020]; · iexact S020
  isplitl [C010]; · iexact C010
  isplitl [A00]; · iexact A00
  isplitl [S030]; · iexact S030
  isplitl [S120]; · iexact S120
  isplitl [C110]; · iexact C110
  isplitl [A10]; · iexact A10
  isplitl [S130]; · iexact S130
  isplitl [S021]; · iexact S021
  isplitl [C011]; · iexact C011
  isplitl [A01]; · iexact A01
  isplitl [Hout]; · iexact Hout
  isplitl [C111]; · iexact C111
  isplitl [HO]; · iexact HO
  isplitl [S031]; · iexact S031
  isplitl [S121]; · iexact S121
  iexact S131

end Cert.KernelIdealProof

end
-- ==== Proof.KernelIdeal.Scratch.lean ====
/- The scratch buffers, held whole at the kernel's entry and exit, and cut into the pieces the exchange moves. -/
module

public import proofs.«01_k».proof.Proof.KernelIdeal.Mem
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The pieces: disjoint, and covering -/

/-- The two entries of an accumulator share no place. -/
theorem accR_disj (b b' : Fin 2) (h : b ≠ b') : Disjoint (accR b).set (accR b').set := by
  rw [Finset.disjoint_left]
  intro i h1 h2
  have e1 := Rect.mem_set_unit.mp h1 0
  have e2 := Rect.mem_set_unit.mp h2 0
  change b.val ≤ (i 0).val ∧ (i 0).val < b.val + 1 at e1
  change b'.val ≤ (i 0).val ∧ (i 0).val < b'.val + 1 at e2
  exact h (Fin.ext (by omega))

/-- The two entries of an accumulator are all of it. -/
theorem accR_cover : Finset.univ.biUnion (fun b : Fin 2 => (accR b).set) = Finset.univ := by
  refine Finset.eq_univ_of_forall fun i => Finset.mem_biUnion.mpr ⟨⟨(i 0).val, (i 0).isLt⟩, Finset.mem_univ _, Rect.mem_set_unit.mpr fun a => ?_⟩
  have h0 := (i 0).isLt; have h1 := (i 1).isLt; have h2 := (i 2).isLt
  fin_cases a
  · exact ⟨Nat.le_refl _, Nat.lt_succ_self _⟩
  · exact ⟨Nat.zero_le _, by simpa using h1⟩
  · exact ⟨Nat.zero_le _, by simpa using h2⟩

/-- Two slots of a slot buffer share no place. -/
theorem slotR_disj (p p' : Fin 4 × Fin 2) (h : p ≠ p') : Disjoint (slotR p.1 p.2).set (slotR p'.1 p'.2).set := by
  rw [Finset.disjoint_left]
  intro i h1 h2
  have e1 := Rect.mem_set_unit.mp h1 0
  have e2 := Rect.mem_set_unit.mp h2 0
  have g1 := Rect.mem_set_unit.mp h1 1
  have g2 := Rect.mem_set_unit.mp h2 1
  change p.1.val ≤ (i 0).val ∧ (i 0).val < p.1.val + 1 at e1
  change p'.1.val ≤ (i 0).val ∧ (i 0).val < p'.1.val + 1 at e2
  change p.2.val ≤ (i 1).val ∧ (i 1).val < p.2.val + 1 at g1
  change p'.2.val ≤ (i 1).val ∧ (i 1).val < p'.2.val + 1 at g2
  exact h (Prod.ext (Fin.ext (by omega)) (Fin.ext (by omega)))

/-- The eight slots of a slot buffer are all of it. -/
theorem slotR_cover : Finset.univ.biUnion (fun p : Fin 4 × Fin 2 => (slotR p.1 p.2).set) = Finset.univ := by
  refine Finset.eq_univ_of_forall fun i => Finset.mem_biUnion.mpr ⟨(⟨(i 0).val, (i 0).isLt⟩, ⟨(i 1).val, (i 1).isLt⟩), Finset.mem_univ _, Rect.mem_set_unit.mpr fun a => ?_⟩
  have h2 := (i 2).isLt; have h3 := (i 3).isLt
  fin_cases a
  · exact ⟨Nat.le_refl _, Nat.lt_succ_self _⟩
  · exact ⟨Nat.le_refl _, Nat.lt_succ_self _⟩
  · exact ⟨Nat.zero_le _, by simpa using h2⟩
  · exact ⟨Nat.zero_le _, by simpa using h3⟩

/-- The places of an entry of the first half's accumulator. -/
theorem acc_set0 (b : Fin 2) : ((accs 0).access (accR b)).set = (accR b).set := View.set_slice_whole _ _
/-- The places of an entry of the second half's accumulator. -/
theorem acc_set1 (b : Fin 2) : ((accs 1).access (accR b)).set = (accR b).set := View.set_slice_whole _ _
/-- The places of a slot of the first half. -/
theorem slot_set0 (k : Fin 4) (b : Fin 2) : (slotM 0 k b).view.set = (slotR k b).set := (slot_set 0 k b).symm.trans (View.set_slice_whole _ _)
/-- The places of a slot of the second half. -/
theorem slot_set1 (k : Fin 4) (b : Fin 2) : (slotM 1 k b).view.set = (slotR k b).set := (slot_set 1 k b).symm.trans (View.set_slice_whole _ _)

/-! ## A device's scratch, whole and in pieces -/

variable (c : Dev nD)

/-- A buffer of the device, whole, at any contents. -/
abbrev anyBuf (b : Ref sig .tc) : sProp 𝕄 := iprop(∃ f : Buf (Elt F) ((c : Thread nD τ).loc b), ((c : Thread nD τ).loc b) ↦{fullShare} f)

/-- The two entries of half `h`'s accumulator. -/
def accAll (h : Fin 2) : sProp 𝕄 := iprop(accAny c h 0 ∗ accAny c h 1)
/-- The eight slots of half `h`. -/
def slotAll (h : Fin 2) : sProp 𝕄 := iprop(slotAny c h 0 0 ∗ slotAny c h 0 1 ∗ slotAny c h 1 0 ∗ slotAny c h 1 1
    ∗ slotAny c h 2 0 ∗ slotAny c h 2 1 ∗ slotAny c h 3 0 ∗ slotAny c h 3 1)

/-- An entry of the first half's accumulator, as a part of its buffer. -/
theorem accAny0 (b : Fin 2) : (accAny c 0 b : sProp 𝕄) = iprop(∃ f : Buf (Elt F) ((c : Thread nD τ).loc cc0_scratch0), ((c : Thread nD τ).loc cc0_scratch0) ↦[(accR b).set]{fullShare} f) := by
  unfold accAny; rw [acc_set0]
/-- An entry of the second half's accumulator, as a part of its buffer. -/
theorem accAny1 (b : Fin 2) : (accAny c 1 b : sProp 𝕄) = iprop(∃ f : Buf (Elt F) ((c : Thread nD τ).loc cc0_scratch1), ((c : Thread nD τ).loc cc0_scratch1) ↦[(accR b).set]{fullShare} f) := by
  unfold accAny; rw [acc_set1]
/-- A slot of the first half, as a part of its buffer. -/
theorem slotAny0 (k : Fin 4) (b : Fin 2) : (slotAny c 0 k b : sProp 𝕄) = iprop(∃ f : Buf (Elt F) ((c : Thread nD τ).loc cc0_scratch2), ((c : Thread nD τ).loc cc0_scratch2) ↦[(slotR k b).set]{fullShare} f) := by
  unfold slotAny; rw [slot_set0]
/-- A slot of the second half, as a part of its buffer. -/
theorem slotAny1 (k : Fin 4) (b : Fin 2) : (slotAny c 1 k b : sProp 𝕄) = iprop(∃ f : Buf (Elt F) ((c : Thread nD τ).loc cc0_scratch3), ((c : Thread nD τ).loc cc0_scratch3) ↦[(slotR k b).set]{fullShare} f) := by
  unfold slotAny; rw [slot_set1]

/-- A separating product over two, written out. -/
theorem bigSep_two (Φ : Fin 2 → sProp 𝕄) : bigSep Finset.univ Φ = iprop(Φ 0 ∗ Φ 1) := by
  rw [BI.bigSep_fin_two]; rfl

/-- A separating product over the eight slots, written out. -/
theorem bigSep_slots (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide)]
  rfl

section Cut

variable {ℓ : Loc nD τ sig}

/-- A buffer at any contents, from a family of pieces each at any contents, and back. -/
theorem cut_any {B : Type} [Fintype B] [DecidableEq B] (I : B → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => iprop(∃ f : Buf (Elt F) ℓ, ℓ ↦[I b]{fullShare} f) := by
  iintro ⟨%f, H⟩
  ihave H' := (Entails.of_eq (Ring.pointsTo_blocks (U := UU) (Ix := Unit) (Name := ℕ) (Lvl := ℕ) I hd hc (q := fullShare) f)) $$ H
  have hm (b : B) : (ℓ ↦[I b]{fullShare} f : sProp 𝕄) ⊢ iprop(∃ f : Buf (Elt F) ℓ, ℓ ↦[I b]{fullShare} f) := by
    iintro H; iexists f; iexact H
  have hM : (bigSep Finset.univ fun b => (ℓ ↦[I b]{fullShare} f : sProp 𝕄)) ⊢ bigSep Finset.univ fun b => iprop(∃ f : Buf (Elt F) ℓ, ℓ ↦[I b]{fullShare} f) :=
    bigSep_mono fun b _ => hm b
  iapply hM
  iexact H'

end Cut

/-- The first half's accumulator, cut into its entries. -/
theorem acc_cut0 : anyBuf c cc0_scratch0 ⊢ (accAll c 0 : sProp 𝕄) := by
  unfold accAll; rw [accAny0, accAny0]
  refine (cut_any (ℓ := (c : Thread nD τ).loc cc0_scratch0) (fun b : Fin 2 => (accR b).set) accR_disj accR_cover).trans (Entails.of_eq ?_)
  rw [bigSep_two]
/-- The second half's accumulator, cut into its entries. -/
theorem acc_cut1 : anyBuf c cc0_scratch1 ⊢ (accAll c 1 : sProp 𝕄) := by
  unfold accAll; rw [accAny1, accAny1]
  refine (cut_any (ℓ := (c : Thread nD τ).loc cc0_scratch1) (fun b : Fin 2 => (accR b).set) accR_disj accR_cover).trans (Entails.of_eq ?_)
  rw [bigSep_two]
/-- The first half's slot buffer, cut into its slots. -/
theorem slot_cut0 : anyBuf c cc0_scratch2 ⊢ (slotAll c 0 : sProp 𝕄) := by
  unfold slotAll; simp only [slotAny0]
  refine (cut_any (ℓ := (c : Thread nD τ).loc cc0_scratch2) (fun p : Fin 4 × Fin 2 => (slotR p.1 p.2).set) slotR_disj slotR_cover).trans (Entails.of_eq ?_)
  rw [bigSep_slots]
/-- The second half's slot buffer, cut into its slots. -/
theorem slot_cut1 : anyBuf c cc0_scratch3 ⊢ (slotAll c 1 : sProp 𝕄) := by
  unfold slotAll; simp only [slotAny1]
  refine (cut_any (ℓ := (c : Thread nD τ).loc cc0_scratch3) (fun p : Fin 4 × Fin 2 => (slotR p.1 p.2).set) slotR_disj slotR_cover).trans (Entails.of_eq ?_)
  rw [bigSep_slots]

/-- The entries joined into the first half's accumulator. -/
theorem acc_join0 : (accAll c 0 : sProp 𝕄) ⊢ anyBuf c cc0_scratch0 := by
  unfold accAll; rw [accAny0, accAny0]
  iintro ⟨⟨%f, H0⟩, H1⟩
  iapply (Ring.pointsTo_blocks_join_exists (ℓ := (c : Thread nD τ).loc cc0_scratch0) (fun b : Fin 2 => (accR b).set) accR_disj accR_cover f)
  rw [bigSep_two]
  isplitl [H0]; · iexists f; iexact H0
  iexact H1
/-- The entries joined into the second half's accumulator. -/
theorem acc_join1 : (accAll c 1 : sProp 𝕄) ⊢ anyBuf c cc0_scratch1 := by
  unfold accAll; rw [accAny1, accAny1]
  iintro ⟨⟨%f, H0⟩, H1⟩
  iapply (Ring.pointsTo_blocks_join_exists (ℓ := (c : Thread nD τ).loc cc0_scratch1) (fun b : Fin 2 => (accR b).set) accR_disj accR_cover f)
  rw [bigSep_two]
  isplitl [H0]; · iexists f; iexact H0
  iexact H1
/-- The slots joined into the first half's slot buffer. -/
theorem slot_join0 : (slotAll c 0 : sProp 𝕄) ⊢ anyBuf c cc0_scratch2 := by
  unfold slotAll; simp only [slotAny0]
  iintro ⟨⟨%f, H0⟩, H1⟩
  iapply (Ring.pointsTo_blocks_join_exists (ℓ := (c : Thread nD τ).loc cc0_scratch2) (fun p : Fin 4 × Fin 2 => (slotR p.1 p.2).set) slotR_disj slotR_cover f)
  rw [bigSep_slots]
  isplitl [H0]; · iexists f; iexact H0
  iexact H1
/-- The slots joined into the second half's slot buffer. -/
theorem slot_join1 : (slotAll c 1 : sProp 𝕄) ⊢ anyBuf c cc0_scratch3 := by
  unfold slotAll; simp only [slotAny1]
  iintro ⟨⟨%f, H0⟩, H1⟩
  iapply (Ring.pointsTo_blocks_join_exists (ℓ := (c : Thread nD τ).loc cc0_scratch3) (fun p : Fin 4 × Fin 2 => (slotR p.1 p.2).set) slotR_disj slotR_cover f)
  rw [bigSep_slots]
  isplitl [H0]; · iexists f; iexact H0
  iexact H1

end Cert.KernelIdealProof

end
-- ==== Proof.KernelIdeal.Region.lean ====
/- The kernel's region of the program: the result it leaves, its body's obligation, and what it takes in and gives back. -/
module

public import proofs.«01_k».proof.Proof.KernelIdeal.Body
public import proofs.«01_k».proof.Proof.KernelIdeal.Scratch
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result: its four quarters -/

/-- A quarter's store at one of its own indices: what was stored. -/
theorem put_hit (h b : Fin 2) (f : Vec F S2x256x512 .f32) (y : FVec F S1x256x256 .f32) (i : S2x256x512.Idx) (j : S1x256x256.Idx)
    (hi : (outR h b).emb j = i) : put h b f y i = y j := by
  subst hi
  exact View.write_emb_of_mem (v := (Memref.whole cc0_stg5_0).access (outR h b)) f y (Finset.mem_univ j)

/-- A quarter's store at any other index: what was there. -/
theorem put_miss (h b : Fin 2) (f : Vec F S2x256x512 .f32) (y : FVec F S1x256x256 .f32) (i : S2x256x512.Idx)
    (hi : i ∉ (outR h b).set) : put h b f y i = f i := by
  refine View.write_of_not_mem (v := (Memref.whole cc0_stg5_0).access (outR h b)) f y Finset.univ fun hm => hi ?_
  rw [View.setOn_univ] at hm
  exact (View.set_slice_whole cc0_stg5_0 (outR h b)) ▸ hm

/-- No two quarters share an index. -/
theorem quarter_ne {h b h' b' : Fin 2} (j : S1x256x256.Idx) (hne : (h, b) ≠ (h', b')) : (outR h b).emb j ∉ (outR h' b').set := by
  intro hm
  have e0 := Rect.mem_set_unit.mp hm 0
  have e2 := Rect.mem_set_unit.mp hm 2
  have j0 : (j 0).val < 1 := (j 0).isLt
  have j2 : (j 2).val < 256 := (j 2).isLt
  change b'.val ≤ b.val + 1 * (j 0).val ∧ b.val + 1 * (j 0).val < b'.val + 1 at e0
  change 256 * h'.val ≤ 256 * h.val + 1 * (j 2).val ∧ 256 * h.val + 1 * (j 2).val < 256 * h'.val + 256 at e2
  exact hne (Prod.ext (Fin.ext (by show h.val = h'.val; omega)) (Fin.ext (by show b.val = b'.val; omega)))

variable (G : Dev nD → Ins F) (c : Dev nD)

/-- The result at an index of a quarter is that quarter's block there. -/
theorem outF_apply (f : Vec F S2x256x512 .f32) (h b : Fin 2) (j : S1x256x256.Idx) : outF G c f ((outR h b).emb j) = res G c h b j := by
  match h, b with
  | 1, 1 => exact put_hit 1 1 _ _ _ j rfl
  | 0, 1 => exact (put_miss 1 1 _ _ _ (quarter_ne j (by decide))).trans (put_hit 0 1 _ _ _ j rfl)
  | 1, 0 => exact ((put_miss 1 1 _ _ _ (quarter_ne j (by decide))).trans (put_miss 0 1 _ _ _ (quarter_ne j (by decide)))).trans (put_hit 1 0 _ _ _ j rfl)
  | 0, 0 => exact (((put_miss 1 1 _ _ _ (quarter_ne j (by decide))).trans (put_miss 0 1 _ _ _ (quarter_ne j (by decide)))).trans
      (put_miss 1 0 _ _ _ (quarter_ne j (by decide)))).trans (put_hit 0 0 _ _ _ j rfl)

/-- Every index lies in a quarter. -/
theorem quarter_of (i : S2x256x512.Idx) : ∃ (h b : Fin 2) (j : S1x256x256.Idx), (outR h b).emb j = i := by
  have h0 : (i 0).val < 2 := (i 0).isLt
  have h1 : (i 1).val < 256 := (i 1).isLt
  have h2 : (i 2).val < 512 := (i 2).isLt
  refine ⟨⟨(i 2).val / 256, by omega⟩, ⟨(i 0).val, h0⟩, fun a => match a with
    | ⟨0, _⟩ => ⟨0, Nat.one_pos⟩
    | ⟨1, _⟩ => ⟨(i 1).val, h1⟩
    | ⟨2, _⟩ => ⟨(i 2).val % 256, Nat.mod_lt _ (by decide)⟩, funext fun a => Fin.ext ?_⟩
  fin_cases a
  · show (i 0).val + 1 * 0 = (i 0).val; omega
  · show 0 + 1 * (i 1).val = (i 1).val; omega
  · show 256 * ((i 2).val / 256) + 1 * ((i 2).val % 256) = (i 2).val; omega

/-- The result does not depend on what the buffer held. -/
theorem outF_indep (f f' : Vec F S2x256x512 .f32) : outF G c f = outF G c f' := by
  funext i
  obtain ⟨h, b, j, rfl⟩ := quarter_of i
  rw [outF_apply, outF_apply]

/-! ## What the region reads and leaves -/

variable (m : (ℓ : Loc nD τ sig) → Buf (Elt F) ℓ)

/-- The kernel's operands on each device, as the host operations leave them. -/
abbrev ins (c : Dev nD) : Ins F := ⟨V1 m c main_v19, V1 m c main_v20, V1 m c main_v12, V1 m c main_v18, V1 m c main_v21⟩

/-- The kernel's result on each device. -/
def resV (c : Dev nD) : Vec F S2x256x512 .f32 := outF (ins m) c (V1 m c main_v22)

/-- A device's unscoped buffers after the kernel. -/
def W2 (c : Dev nD) : Valuation τ sig (Elt F) := Function.update (V1 m c) main_v22 (resV m c)

/-- After the call the result's buffer holds the result. -/
theorem W2_out (c : Dev nD) : W2 m c main_v22 = resV m c := by unfold W2; rw [Function.update_self]
/-- After the call every other buffer holds what it held before. -/
theorem W2_of (c : Dev nD) (r : Ref sig .tc) (h : r ≠ main_v22) : W2 m c r = V1 m c r := by
  unfold W2; rw [Function.update_of_ne (StableHlo.devRef_ne_of_ne h : (Proc.devRef .tc r : DevRef τ sig) ≠ Proc.devRef .tc main_v22)]

/-! ## The region's ghost state -/

/-- The exchange's copy semaphores: per channel, the send and the receive one. -/
abbrev osem : Chan × Fin 2 → SemLoc sig := fun p => match p.2 with
  | 0 => .dma (sendS p.1)
  | 1 => .dma (recvS p.1)

/-- The kernel's own counters at zero, channel by channel. -/
theorem ownSems_eq (c : Dev nD) : (Pipeline.ownSems0 osem c : sProp 𝕄) = bigSep Finset.univ fun ch : Chan => closed c ch := by
  unfold Pipeline.ownSems0
  rw [bigSep_univ_prod]
  exact bigSep_congr fun ch _ => (bigSep_two (F := F) _)

/-- A channel at launch: the two rights to open its cells, and what `idle` needs beside them. -/
def shut (c : Dev nD) (ch : Chan) : sProp 𝕄 :=
  iprop((openTok ER (sendCell c ch) ∗ openTok ER (recvCell c ch)) ∗ dutyTok ER (sendCell c ch) 0 0 ∗ dutyTok ER (recvCell (partner ch c) ch) 0 0
    ∗ cred (tallyAt (recvCell c ch) () N))

/-- A channel opened: idle, its receive cell's round 0 open. -/
def opened (c : Dev nD) (ch : Chan) : sProp 𝕄 := iprop(idle c ch ∗ reached ER (recvCell c ch) 0)

/-- The barrier cell's part: the position, the tokens of the two units the device pays, and the credit for the two it gets. -/
def barSt (c : Dev nD) : sProp 𝕄 :=
  iprop(atPos ER (barCell c) 0 ∅ 0 ∗ dutyTok ER (barCell (xp c)) 0 0 ∗ dutyTok ER (barCell (yp c)) 0 1 ∗ cred (tallyAt (barCell c) () 2))

/-- What the launch hands the region for the exchange. -/
def Tk (c : Dev nD) : sProp 𝕄 := iprop(∃ K, records (X (ins m)) K ∗ barSt c ∗ bigSep Finset.univ fun ch : Chan => shut c ch)
/-- The same with every channel opened. -/
def Xk (c : Dev nD) : sProp 𝕄 := iprop(∃ K, records (X (ins m)) K ∗ levAts L lv ∗ barSt c ∗ bigSep Finset.univ fun ch : Chan => opened c ch)

/-- A channel's two cells are opened, their counters standing at zero. -/
theorem open_chan (K : GSem nD τ sig → ℕ) (c : Dev nD) (ch : Chan) :
    iprop(records (X (ins m)) K ∗ shut c ch ∗ closed c ch) ⊢ (|={Set.univ}=> opened c ch : sProp 𝕄) := by
  unfold shut closed opened idle
  iintro ⟨#HR, ⟨⟨HoS, HoV⟩, H1, H2, H3⟩, HsS, HsV⟩
  ihave #HIs := (records_send (X (ins m)) K c ch) $$ HR
  ihave #HIr := (records_recv (X (ins m)) K c ch) $$ HR
  imod (Rounds.cell_open ER (talkRd (X (ins m))) (g := sendCell c ch) (Set.mem_univ (K (sendCell c ch)))) $$ [HoS HsS] with ⟨HatS, #HrS⟩
  · isplitr; · iexact HIs
    isplitl [HoS] <;> iassumption
  imod (Rounds.cell_open ER (talkRd (X (ins m))) (g := recvCell c ch) (Set.mem_univ (K (recvCell c ch)))) $$ [HoV HsV] with ⟨HatV, #HrV⟩
  · isplitr; · iexact HIr
    isplitl [HoV] <;> iassumption
  imodintro
  isplitl [HatS HatV H1 H2 H3]
  · isplitl [HatS]; · iexact HatS
    isplitl [HatV]; · iexact HatV
    isplitr; · iexact HrS
    isplitl [H1]; · iexact H1
    isplitl [H2] <;> iassumption
  iexact HrV

/-- All of a device's channels are opened. -/
theorem open_chans (K : GSem nD τ sig → ℕ) (c : Dev nD) :
    iprop(records (X (ins m)) K ∗ (bigSep Finset.univ fun ch : Chan => shut c ch) ∗ bigSep Finset.univ fun ch : Chan => closed c ch)
      ⊢ (|={Set.univ}=> bigSep Finset.univ fun ch : Chan => opened c ch : sProp 𝕄) := by
  have h1 (ch : Chan) : iprop(records (X (ins m)) K ∗ (shut c ch ∗ closed c ch)) ⊢ (|={Set.univ}=> opened c ch : sProp 𝕄) := open_chan m K c ch
  have h2 : iprop(records (X (ins m)) K ∗ bigSep Finset.univ fun ch : Chan => iprop(shut c ch ∗ closed c ch))
      ⊢ (bigSep Finset.univ fun ch : Chan => iprop(|={Set.univ}=> opened c ch) : sProp 𝕄) := bigSep_with_persistent fun ch _ => h1 ch
  have h3 : (bigSep Finset.univ fun ch : Chan => iprop(|={Set.univ}=> opened c ch) : sProp 𝕄) ⊢ (|={Set.univ}=> bigSep Finset.univ fun ch : Chan => opened c ch : sProp 𝕄) :=
    bigSep_fupd _ _
  have h4 : iprop((bigSep Finset.univ fun ch : Chan => shut c ch) ∗ bigSep Finset.univ fun ch : Chan => closed c ch)
      ⊢ (bigSep Finset.univ fun ch : Chan => iprop(shut c ch ∗ closed c ch) : sProp 𝕄) := Entails.of_eq (bigSep_sep' _ _ _).symm
  iintro ⟨#HR, H⟩
  ihave H' := h4 $$ H
  iapply h3
  iapply h2
  isplitr; · iexact HR
  iexact H'

/-- What the launch hands the region becomes the same with every channel opened. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, #HR, HB, HC⟩, HS, #HL⟩
  imod (open_chans m K c) $$ [HC HS] with HO
  · isplitr; · iexact HR
    isplitl [HC] <;> iassumption
  imodintro
  iexists K
  isplitr; · iexact HR
  isplitr; · iexact HL
  isplitl [HB] <;> iassumption

/-! ## The body's obligation -/

/-- Before the body: the exchange opened, the scratch, the generator register. -/
def Φ₀ (c : Dev nD) : sProp 𝕄 := iprop(Xk m c ∗ (anyBuf c cc0_scratch0 ∗ anyBuf c cc0_scratch1 ∗ anyBuf c cc0_scratch2 ∗ anyBuf c cc0_scratch3) ∗ ∃ r, prngReg c r)
/-- After the body: every counter at zero, the scratch, the generator register. -/
def Φ₁ (c : Dev nD) : sProp 𝕄 := iprop((semVal (barCell c) 0 ∗ bigSep Finset.univ fun ch : Chan => closed c ch)
  ∗ (anyBuf c cc0_scratch0 ∗ anyBuf c cc0_scratch1 ∗ anyBuf c cc0_scratch2 ∗ anyBuf c cc0_scratch3) ∗ ∃ r, prngReg c r)

/-- The proof data of the region: the operands at entry, the staging contents after the body, the two invariants, and what is owed. -/
abbrev dat (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => resV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev pdats (p : Fin 1) (c : Dev nD) : Dat τ (Elt F) Unit ℕ UU ℕ (cfgs p) c := match p with
  | ⟨0, _⟩ => dat m c

/-- What a device hands its first partner with its barrier unit: its own slots for the channels between them. -/
theorem barPay_own0 (c : Dev nD) : (barPay (xp c) 0 : sProp 𝕄) = iprop(lend c (0, 0, 0) ∗ lend c (0, 0, 1) ∗ lend c (1, 1, 0) ∗ lend c (1, 1, 1)) := by
  unfold barPay; rw [xp_xp, if_pos rfl]
/-- What a device hands its second partner with its barrier unit, likewise. -/
theorem barPay_own1 (c : Dev nD) : (barPay (yp c) 1 : sProp 𝕄) = iprop(lend c (1, 0, 0) ∗ lend c (1, 0, 1) ∗ lend c (0, 1, 0) ∗ lend c (0, 1, 1)) := by
  unfold barPay; rw [yp_yp, if_neg (by decide)]

/-- The eight channels, written out in the order of sending. -/
theorem bigSep_chans (Φ : Chan → sProp 𝕄) : bigSep Finset.univ Φ
    = iprop(Φ (0, 0, 0) ∗ Φ (1, 0, 0) ∗ Φ (0, 0, 1) ∗ Φ (1, 0, 1) ∗ Φ (0, 1, 0) ∗ Φ (1, 1, 0) ∗ Φ (0, 1, 1) ∗ Φ (1, 1, 1)) := by
  rw [bigSep_univ_eq_bigSepL order (by decide) (by decide)]
  rfl

/-- What a device owes, in the form in which a grid point states it. -/
theorem owesAt_in {cfg : Pipeline.Cfg sig Λ₀} {c : Dev nD} (d : Dat τ (Elt F) Unit ℕ UU ℕ cfg c) (t : Fin (cfg.N + 1))
    (O : CellTallies nD τ sig Unit) (h : d.owed t = O) (hr : d.recorded t = Set.univ) : (owing c O : sProp 𝕄) ⊢ d.owesAt () t := by
  unfold owing Dat.owesAt Pipeline.owesWithin Dat.bound
  rw [h, hr]
  iintro ⟨%W, H⟩
  iexists W
  isplitr; · ipureintro; exact fun _ _ => Or.inl trivial
  iexact H
/-- What a grid point states of the debt, as what the device owes. -/
theorem owesAt_out {cfg : Pipeline.Cfg sig Λ₀} {c : Dev nD} (d : Dat τ (Elt F) Unit ℕ UU ℕ cfg c) (t : Fin (cfg.N + 1))
    (O : CellTallies nD τ sig Unit) (h : d.owed t = O) : d.owesAt () t ⊢ (owing c O : sProp 𝕄) := by
  unfold owing Dat.owesAt Pipeline.owesWithin
  rw [h]
  iintro ⟨%W, -, H⟩
  iexists W
  iexact H

/-- The block of `x` is all of it. -/
theorem blk_read0 (f : ((main_v19 : Ref sig .tc)).ty.Contents (Elt F)) : (win0_0.blk t0_0).view.read (Elt F) f = f :=
  Memref.read_access_unit_zero (Elt F) main_v19 (funext fun a => by fin_cases a <;> decide) (fun a => by fin_cases a <;> decide) f
/-- Before the body the first window's staging buffer holds `x`. -/
theorem before0 (c : Dev nD) (d : (cfg0.win 0).block.Idx → Elt F (cfg0.win 0).elt) : (dat m c).before 0 t0_0 d = (ins m c).x := by
  unfold Dat.before; rw [if_pos (fetch0_0 t0_0)]
  exact Eq.trans (b := (win0_0.blk t0_0).view.read (Elt F) (V1 m c main_v19)) rfl (blk_read0 _)

/-- The block of the query weights is all of them. -/
theorem blk_read1 (f : ((main_v20 : Ref sig .tc)).ty.Contents (Elt F)) : (win0_1.blk t0_0).view.read (Elt F) f = f :=
  Memref.read_access_unit_zero (Elt F) main_v20 (funext fun a => by fin_cases a <;> decide) (fun a => by fin_cases a <;> decide) f
/-- Before the body the second window's staging buffer holds the query weights. -/
theorem before1 (c : Dev nD) (d : (cfg0.win 1).block.Idx → Elt F (cfg0.win 1).elt) : (dat m c).before 1 t0_0 d = (ins m c).wq := by
  unfold Dat.before; rw [if_pos (fetch0_1 t0_0)]
  exact Eq.trans (b := (win0_1.blk t0_0).view.read (Elt F) (V1 m c main_v20)) rfl (blk_read1 _)

/-- The block of the keys is all of them. -/
theorem blk_read2 (f : ((main_v12 : Ref sig .tc)).ty.Contents (Elt F)) : (win0_2.blk t0_0).view.read (Elt F) f = f :=
  Memref.read_access_unit_zero (Elt F) main_v12 (funext fun a => by fin_cases a <;> decide) (fun a => by fin_cases a <;> decide) f
/-- Before the body the third window's staging buffer holds the device's keys. -/
theorem before2 (c : Dev nD) (d : (cfg0.win 2).block.Idx → Elt F (cfg0.win 2).elt) : (dat m c).before 2 t0_0 d = (ins m c).k := by
  unfold Dat.before; rw [if_pos (fetch0_2 t0_0)]
  exact Eq.trans (b := (win0_2.blk t0_0).view.read (Elt F) (V1 m c main_v12)) rfl (blk_read2 _)

/-- The block of the values is all of them. -/
theorem blk_read3 (f : ((main_v18 : Ref sig .tc)).ty.Contents (Elt F)) : (win0_3.blk t0_0).view.read (Elt F) f = f :=
  Memref.read_access_unit_zero (Elt F) main_v18 (funext fun a => by fin_cases a <;> decide) (fun a => by fin_cases a <;> decide) f
/-- Before the body the fourth window's staging buffer holds the device's values. -/
theorem before3 (c : Dev nD) (d : (cfg0.win 3).block.Idx → Elt F (cfg0.win 3).elt) : (dat m c).before 3 t0_0 d = (ins m c).v := by
  unfold Dat.before; rw [if_pos (fetch0_3 t0_0)]
  exact Eq.trans (b := (win0_3.blk t0_0).view.read (Elt F) (V1 m c main_v18)) rfl (blk_read3 _)

/-- The block of the output weights is all of them. -/
theorem blk_read4 (f : ((main_v21 : Ref sig .tc)).ty.Contents (Elt F)) : (win0_4.blk t0_0).view.read (Elt F) f = f :=
  Memref.read_access_unit_zero (Elt F) main_v21 (funext fun a => by fin_cases a <;> decide) (fun a => by fin_cases a <;> decide) f
/-- Before the body the fifth window's staging buffer holds the output weights. -/
theorem before4 (c : Dev nD) (d : (cfg0.win 4).block.Idx → Elt F (cfg0.win 4).elt) : (dat m c).before 4 t0_0 d = (ins m c).wo := by
  unfold Dat.before; rw [if_pos (fetch0_4 t0_0)]
  exact Eq.trans (b := (win0_4.blk t0_0).view.read (Elt F) (V1 m c main_v21)) rfl (blk_read4 _)

/-- The block of the result is all of it. -/
theorem blk_read5 (f : ((main_v22 : Ref sig .tc)).ty.Contents (Elt F)) : (win0_5.blk t0_0).view.read (Elt F) f = f :=
  Memref.read_access_unit_zero (Elt F) main_v22 (funext fun a => by fin_cases a <;> decide) (fun a => by fin_cases a <;> decide) f

set_option backward.isDefEq.respectTransparency.types false in
set_option maxHeartbeats 1000000 in
/-- The body, from the region's first invariant to its last, with every operand in its staging buffer. -/
theorem body_ob (c : Dev nD) : BodyObligation (dat m c) defs₀ 𝒱₀ () Set.univ := fun t => by
  obtain rfl := fin_N0 t
  rw [bigSep_W0, bigSep_W0]
  rw [show (dat m c).Φ (Fin.castSucc t0_0) = Φ₀ m c from rfl, show (dat m c).Φ (Fin.succ t0_0) = Φ₁ c from rfl]
  unfold Φ₀ Xk barSt owns
  iintro ⟨⟨⟨%K, #HR, #HL, ⟨Hat, TX, TY, HcB⟩, HC⟩, ⟨Ha0, Ha1, Ha2, Ha3⟩, Hreg⟩, HO, ⟨%d0, %g0, %hg0, Hx⟩, ⟨%d1, %g1, %hg1, Hw⟩, ⟨%d2, %g2, %hg2, Hk⟩,
    ⟨%d3, %g3, %hg3, Hv⟩, ⟨%d4, %g4, %hg4, Ho⟩, ⟨%d5, %g5, %hg5, Hout⟩⟩
  obtain rfl : g0 = (ins m c).x := Eq.trans hg0 (before0 m c d0)
  obtain rfl : g1 = (ins m c).wq := Eq.trans hg1 (before1 m c d1)
  obtain rfl : g2 = (ins m c).k := Eq.trans hg2 (before2 m c d2)
  obtain rfl : g3 = (ins m c).v := Eq.trans hg3 (before3 m c d3)
  obtain rfl : g4 = (ins m c).wo := Eq.trans hg4 (before4 m c d4)
  ihave HC' := (Entails.of_eq (bigSep_chans (F := F) (fun ch => opened c ch))) $$ HC
  unfold opened
  icases HC' with ⟨⟨I000, R000⟩, ⟨I100, R100⟩, ⟨I001, R001⟩, ⟨I101, R101⟩, ⟨I010, R010⟩, ⟨I110, R110⟩, ⟨I011, R011⟩, ⟨I111, R111⟩⟩
  ihave H0 := (acc_cut0 c) $$ Ha0
  ihave H1 := (acc_cut1 c) $$ Ha1
  ihave H2 := (slot_cut0 c) $$ Ha2
  ihave H3 := (slot_cut1 c) $$ Ha3
  unfold accAll slotAll
  icases H0 with ⟨A00, A01⟩
  icases H1 with ⟨A10, A11⟩
  icases H2 with ⟨S000, S001, S010, S011, S020, S021, S030, S031⟩
  icases H3 with ⟨S100, S101, S110, S111, S120, S121, S130, S131⟩
  ihave HO' := (owesAt_out (dat m c) (Fin.castSucc t0_0) (O₀ c) rfl) $$ HO
  ihave BX := (show iprop((slotAny c 0 1 0 ∗ reached ER (recvCell c (0, 0, 0)) 0) ∗ (slotAny c 0 1 1 ∗ reached ER (recvCell c (0, 0, 1)) 0) ∗ (slotAny c 1 3 0 ∗ reached ER (recvCell c (1, 1, 0)) 0) ∗ (slotAny c 1 3 1 ∗ reached ER (recvCell c (1, 1, 1)) 0)) ⊢ (barPay (xp c) 0 : sProp 𝕄) from Entails.of_eq (barPay_own0 c).symm) $$ [S010 R000 S011 R001 S130 R110 S131 R111]
  · isplitl [S010 R000]; · isplitl [S010] <;> iassumption
    isplitl [S011 R001]; · isplitl [S011] <;> iassumption
    isplitl [S130 R110]; · isplitl [S130] <;> iassumption
    isplitl [S131] <;> iassumption
  ihave BY := (show iprop((slotAny c 1 1 0 ∗ reached ER (recvCell c (1, 0, 0)) 0) ∗ (slotAny c 1 1 1 ∗ reached ER (recvCell c (1, 0, 1)) 0) ∗ (slotAny c 0 3 0 ∗ reached ER (recvCell c (0, 1, 0)) 0) ∗ (slotAny c 0 3 1 ∗ reached ER (recvCell c (0, 1, 1)) 0)) ⊢ (barPay (yp c) 1 : sProp 𝕄) from Entails.of_eq (barPay_own1 c).symm) $$ [S110 R100 S111 R101 S030 R010 S031 R011]
  · isplitl [S110 R100]; · isplitl [S110] <;> iassumption
    isplitl [S111 R101]; · isplitl [S111] <;> iassumption
    isplitl [S030 R010]; · isplitl [S030] <;> iassumption
    isplitl [S031] <;> iassumption
  iapply (body_run (ins m) c K g5 _) $$ [Hat HcB TX TY BX BY I000 I100 I001 I101 I010 I110 I011 I111 A00 A01 A10 A11 S000 S001 S020 S021 S100 S101 S120 S121 Hx Hw Hk Hv Ho Hout HO']
  · isplitr; · iexact HR
    isplitr; · iexact HL
    isplitl [Hat]; · iexact Hat
    isplitl [HcB]; · iexact HcB
    isplitl [TX]; · iexact TX
    isplitl [TY]; · iexact TY
    isplitl [BX]; · iexact BX
    isplitl [BY]; · iexact BY
    isplitl [I000]; · iexact I000
    isplitl [I100]; · iexact I100
    isplitl [I001]; · iexact I001
    isplitl [I101]; · iexact I101
    isplitl [I010]; · iexact I010
    isplitl [I110]; · iexact I110
    isplitl [I011]; · iexact I011
    isplitl [I111]; · iexact I111
    isplitl [A00]; · iexact A00
    isplitl [A01]; · iexact A01
    isplitl [A10]; · iexact A10
    isplitl [A11]; · iexact A11
    isplitl [S000]; · iexact S000
    isplitl [S001]; · iexact S001
    isplitl [S020]; · iexact S020
    isplitl [S021]; · iexact S021
    isplitl [S100]; · iexact S100
    isplitl [S101]; · iexact S101
    isplitl [S120]; · iexact S120
    isplitl [S121]; · iexact S121
    isplitl [Hx]; · iexact Hx
    isplitl [Hw]; · iexact Hw
    isplitl [Hk]; · iexact Hk
    isplitl [Hv]; · iexact Hv
    isplitl [Ho]; · iexact Ho
    isplitl [Hout]; · iexact Hout
    iexact HO'
  iintro ⟨HB, Gx, Gw, Gk, Gv, Go, S000, C000, S010, S100, C100, S110, C001, S001, S011, C101, A11, S101, S111, S020, C010, A00, S030, S120, C110, A10, S130, S021, C011, A01, Gout, C111, GO, S031, S121, S131⟩
  ihave S000 := (slotAt_any c 0 0 0 _) $$ S000
  ihave S010 := (slotAt_any c 0 1 0 _) $$ S010
  ihave S100 := (slotAt_any c 1 0 0 _) $$ S100
  ihave S110 := (slotAt_any c 1 1 0 _) $$ S110
  ihave S001 := (slotAt_any c 0 0 1 _) $$ S001
  ihave S011 := (slotAt_any c 0 1 1 _) $$ S011
  ihave A11 := (accAt_any c 1 1 _) $$ A11
  ihave S101 := (slotAt_any c 1 0 1 _) $$ S101
  ihave S111 := (slotAt_any c 1 1 1 _) $$ S111
  ihave S020 := (slotAt_any c 0 2 0 _) $$ S020
  ihave A00 := (accAt_any c 0 0 _) $$ A00
  ihave S030 := (slotAt_any c 0 3 0 _) $$ S030
  ihave S120 := (slotAt_any c 1 2 0 _) $$ S120
  ihave A10 := (accAt_any c 1 0 _) $$ A10
  ihave S130 := (slotAt_any c 1 3 0 _) $$ S130
  ihave S021 := (slotAt_any c 0 2 1 _) $$ S021
  ihave A01 := (accAt_any c 0 1 _) $$ A01
  ihave S031 := (slotAt_any c 0 3 1 _) $$ S031
  ihave S121 := (slotAt_any c 1 2 1 _) $$ S121
  ihave S131 := (slotAt_any c 1 3 1 _) $$ S131
  unfold Φ₁
  isplitl [HB C000 C100 C001 C101 C010 C110 C011 C111 A00 A01 A10 A11 S000 S001 S010 S011 S020 S021 S030 S031 S100 S101 S110 S111 S120 S121 S130 S131 Hreg]
  · isplitl [HB C000 C100 C001 C101 C010 C110 C011 C111]
    · isplitl [HB]; · iexact HB
      iapply (Entails.of_eq (bigSep_chans (F := F) (fun ch => closed c ch)).symm)
      isplitl [C000]; · iexact C000
      isplitl [C100]; · iexact C100
      isplitl [C001]; · iexact C001
      isplitl [C101]; · iexact C101
      isplitl [C010]; · iexact C010
      isplitl [C110]; · iexact C110
      isplitl [C011]; · iexact C011
      iexact C111
    isplitl [A00 A01 A10 A11 S000 S001 S010 S011 S020 S021 S030 S031 S100 S101 S110 S111 S120 S121 S130 S131]; rotate_left; · iexact Hreg
    isplitl [A00 A01]; · iapply (acc_join0 c); unfold accAll; isplitl [A00] <;> iassumption
    isplitl [A10 A11]; · iapply (acc_join1 c); unfold accAll; isplitl [A10] <;> iassumption
    isplitl [S000 S001 S010 S011 S020 S021 S030 S031]
    · iapply (slot_join0 c); unfold slotAll
      isplitl [S000]; · iexact S000
      isplitl [S001]; · iexact S001
      isplitl [S010]; · iexact S010
      isplitl [S011]; · iexact S011
      isplitl [S020]; · iexact S020
      isplitl [S021]; · iexact S021
      isplitl [S030]; · iexact S030
      iexact S031
    · iapply (slot_join1 c); unfold slotAll
      isplitl [S100]; · iexact S100
      isplitl [S101]; · iexact S101
      isplitl [S110]; · iexact S110
      isplitl [S111]; · iexact S111
      isplitl [S120]; · iexact S120
      isplitl [S121]; · iexact S121
      isplitl [S130]; · iexact S130
      iexact S131
  isplitl [GO]; · iapply (owesAt_in (dat m c) (Fin.succ t0_0) (owedOn c []) rfl rfl); iexact GO
  isplitl [Gx]
  · iexists (ins m c).x
    isplitr; · ipureintro; rfl
    iexact Gx
  isplitl [Gw]
  · iexists (ins m c).wq
    isplitr; · ipureintro; rfl
    iexact Gw
  isplitl [Gk]
  · iexists (ins m c).k
    isplitr; · ipureintro; rfl
    iexact Gk
  isplitl [Gv]
  · iexists (ins m c).v
    isplitr; · ipureintro; rfl
    iexact Gv
  isplitl [Go]
  · iexists (ins m c).wo
    isplitr; · ipureintro; rfl
    iexact Go
  iexists (outF (ins m) c g5); isplitr
  · ipureintro; exact outF_indep (ins m) c g5 _
  iexact Gout

end Cert.KernelIdealProof

end
-- ==== Proof.KernelIdeal.Kit.lean ====
/- The kernel's region as one segment of the program: its record, entered from the operands and left with the result. -/
module

public import proofs.«01_k».proof.Proof.KernelIdeal.Region

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The buffers the region's windows stage. -/
abbrev winRefs : Finset (DevRef τ sig) := Pipeline.arrRefs (τ := τ) spec0
/-- The other unscoped buffers. -/
abbrev restRefs : Finset (DevRef τ sig) := Pipeline.ucRefs τ sig \ winRefs

/-- The windows' arrays are among the buffers that outlive the call. -/
theorem winRefs_sub : winRefs ⊆ Pipeline.ucRefs τ sig :=
  Pipeline.arrRefs_sub_ucRefs spec0 (by decide)

/-- The result's buffer is one of the windows' arrays. -/
theorem out_mem : (Proc.devRef .tc main_v22 : DevRef τ sig) ∈ winRefs := by decide

/-- A buffer that is no window's array holds after the call what it held before. -/
theorem W2_rest (c : Dev nD) (b : DevRef τ sig) (hb : b ∈ restRefs \ ∅) : W2 m c b = V1 m c b := by
  have h : b ≠ Proc.devRef .tc main_v22 := fun e => (Finset.mem_sdiff.mp (Finset.mem_sdiff.mp hb).1).2 (e ▸ out_mem)
  unfold W2; rw [Function.update_of_ne h]

/-- Holding no buffer is holding nothing. -/
theorem held_none (c : Dev nD) (V : Valuation τ sig (Elt F)) : (StableHlo.held (c.tc : Thread nD τ) ∅ V : sProp 𝕄) = iprop(emp) := by
  unfold StableHlo.held; exact BI.bigSep_empty

/-- The call has one grid step: the last point is the one after it. -/
theorem last_eq : (Fin.last cfg0.N) = Fin.succ t0_0 := Fin.ext N_0

/-- What the region is entered with makes up the invariant before the body. -/
theorem hin (c : Dev nD) : iprop(Pipeline.scopedRest spec0 c ∗ (∃ r, prngReg c r) ∗ StableHlo.held (c.tc : Thread nD τ) ∅ (V1 m c) ∗ Xk m c)
    ⊢ (Φ₀ m c : sProp 𝕄) := by
  rw [scopedRest0_eq, held_none]
  unfold Φ₀ anyBuf
  iintro ⟨Hs, Hr, -, HX⟩
  isplitl [HX]; · iexact HX
  isplitl [Hs]; · iexact Hs
  iexact Hr

/-- The invariant after the body gives back the scratch, the generator register and every counter at zero. -/
theorem hout (c : Dev nD) : (Φ₁ c : sProp 𝕄)
    ⊢ iprop(Pipeline.scopedRest spec0 c ∗ (∃ r, prngReg c r) ∗ StableHlo.held (c.tc : Thread nD τ) ∅ (W2 m c) ∗ Pipeline.ownSems0 osem c ∗ semVal (barCell c) 0) := by
  rw [scopedRest0_eq, held_none, ownSems_eq]
  unfold Φ₁ anyBuf
  iintro ⟨⟨Hb, Hc⟩, Hs, Hr⟩
  isplitl [Hs]; · iexact Hs
  isplitl [Hr]; · iexact Hr
  isplitr; · iempintro
  isplitl [Hc]; · iexact Hc
  iexact Hb

/-- Whatever a device owes at launch is listed, at a level above zero. -/
theorem owed_due (c : Dev nD) (g : GSem nD τ sig) (u : Unit) (h : 0 < O₀ c g u) : u ∈ L g ∧ 0 < lv g u := by
  have h' : 0 < owedOn c order g u + tallyAt (barCell (yp c)) () 1 g u + tallyAt (barCell (xp c)) () 1 g u := h
  have key : (∃ ch ∈ order, g = recvCell (partner ch c) ch) ∨ g = barCell (yp c) ∨ g = barCell (xp c) := by
    by_cases hl : 0 < owedOn c order g u
    · exact Or.inl (owedOn_pos c g u order hl)
    · right
      rw [tallyAt_apply, tallyAt_apply] at h'
      by_contra hne
      rw [if_neg (fun hh => hne (Or.inl hh.1)), if_neg (fun hh => hne (Or.inr hh.1))] at h'
      omega
  rcases key with ⟨ch, -, rfl⟩ | rfl | rfl
  · rw [L_tc, lv_recv]; exact ⟨Finset.mem_singleton_self _, by omega⟩
  · rw [L_tc, lv_bar]; exact ⟨Finset.mem_singleton_self _, by omega⟩
  · rw [L_tc, lv_bar]; exact ⟨Finset.mem_singleton_self _, by omega⟩

/-- A window's own copy semaphore belongs to no channel. -/
theorem decode_stage : ∀ (w : Fin cfg0.W) (s : Fin (cfg0.win w).nbuf), decode ((cfg0.win w).sem s) = none := by decide

/-- The windows' copies may be waited for under what the device owes: those waits lie below all of it. -/
theorem cut : Pipeline.LevelCutOwed (pcfgs (F := F)) adm (pdats m) () L lv 0 (fun _ => 0) where
  hι c w s := by rw [L_tc]; exact Finset.mem_singleton_self _
  hιb c w s := by
    show (match decode ((cfg0.win w).sem s) with | some (true, ch) => 2 + ch.2.1.val | _ => 0) ≤ 0
    rw [decode_stage]
  hD c t g i h := by
    have h2 : 0 < (dat m c).owed t g i := h
    rcases t with ⟨_ | t, ht⟩
    · exact owed_due c g i h2
    · exact absurd h2 (Nat.lt_irrefl 0)

/-- The result's array after the last grid step is the result. -/
theorem out_written (c : Dev nD) : (dat m c).arrAt 5 cfg0.N = resV m c := by
  have h := (dat m c).arrAt_succ 5 t0_0
  rw [if_pos (flush0_5 t0_0)] at h
  have e : cfg0.N = t0_0.val + 1 := N_0
  rw [e]
  refine h.trans ?_
  refine (blk_read5 _).symm.trans ?_
  exact View.read_write_univ _ _

/-- Every window's array after the call is what the call leaves in that buffer. -/
theorem arr_after : ∀ (c : Dev nD) (w : Fin cfg0.W), (dat m c).arrAt w cfg0.N = W2 m c (Proc.devRef .tc (Pipeline.arrRef spec0 w))
  | c, 0 => ((dat m c).arrAt_in 0 rfl _).trans (W2_of m c main_v19 (by decide)).symm
  | c, 1 => ((dat m c).arrAt_in 1 rfl _).trans (W2_of m c main_v20 (by decide)).symm
  | c, 2 => ((dat m c).arrAt_in 2 rfl _).trans (W2_of m c main_v12 (by decide)).symm
  | c, 3 => ((dat m c).arrAt_in 3 rfl _).trans (W2_of m c main_v18 (by decide)).symm
  | c, 4 => ((dat m c).arrAt_in 4 rfl _).trans (W2_of m c main_v21 (by decide)).symm
  | c, 5 => (out_written m c).trans (W2_out m c).symm
  | _, ⟨_ + 6, h⟩ => absurd h (Nat.not_lt.2 (Nat.le_add_left _ _))

/-- The invariant after the last grid step is the one after the body. -/
theorem dat_last (c : Dev nD) : (dat m c).Φ (Fin.last cfg0.N) = Φ₁ c := by rw [last_eq]; rfl
/-- Nothing is owed after the last grid step. -/
theorem owed_last (c : Dev nD) : (dat m c).owed (Fin.last cfg0.N) = 0 := by rw [last_eq]; rfl

/-- Every window's array is held whole. -/
theorem share_full : ∀ (c : Dev nD) (w : Fin cfg0.W), (dat m c).share w = fullShare
  | _, 0 => rfl | _, 1 => rfl | _, 2 => rfl | _, 3 => rfl | _, 4 => rfl | _, 5 => rfl
  | _, ⟨_ + 6, h⟩ => absurd h (Nat.not_lt.2 (Nat.le_add_left _ _))

set_option backward.isDefEq.respectTransparency.types false in
/-- The region's record: entered with the windows' arrays and the rest of the unscoped buffers as the host operations left them, owing the
    exchange; left with the result written and nothing owed. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) launch0.toP rfl (fun c => (body_ob m c).loose)
    (fun _ => 0) O₀ (fun c => (zero_add (O₀ c)).symm) (owed_last m) (fun _ => rfl) (share_full m)
    (V1 m) (W2 m) (W2_rest m)
    (Tk m) (fun c => semVal (barCell c) 0) (Xk m) (fun c => semVal (barCell c) 0) (hopen m) (hin m)
    (fun c => (Entails.of_eq (dat_last m c)).trans (hout m c))
    (fun c => by iintro H; imodintro; iexact H)
    (fun _ => 0) (cut m) (fun _ => iprop(emp))
    (fun _ _ => rfl) (arr_after m)

/-- What a device holds beside its buffers before the region: its share of the exchange, the generator register, what it owes. -/
def before (c : Dev nD) : sProp 𝕄 := iprop(Tk m c ∗ (∃ r, prngReg c r) ∗ owing c (O₀ c))
/-- What it holds beside them after the region: the barrier counter back at zero, nothing owed. -/
def behind (c : Dev nD) : sProp 𝕄 := iprop(semVal (barCell c) 0 ∗ owing c 0)

/-- The buffers and what stands beside them before the call are what the region asks for. -/
theorem reg_pre (c : Dev nD) : iprop(StableHlo.held (c : Thread nD τ) (Pipeline.ucRefs τ sig) (V1 m c) ∗ before m c) ⊢ (reg m).pre c := by
  show _ ⊢ (iprop(StableHlo.held (c.tc : Thread nD τ) winRefs (V1 m c) ∗ (∃ r, prngReg c r)
    ∗ (StableHlo.held (c.tc : Thread nD τ) restRefs (V1 m c) ∗ emp) ∗ Tk m c ∗ ∃ Wd, owes (c : Thread nD τ) (0 + O₀ c) Wd) : sProp 𝕄)
  rw [StableHlo.held_sub_split (c.tc : Thread nD τ) winRefs_sub (V1 m c), zero_add]
  unfold before owing
  iintro ⟨⟨H1, H2⟩, HT, HP, HO⟩
  isplitl [H1]; · iexact H1
  isplitl [HP]; · iexact HP
  isplitl [H2]
  · isplitl [H2]; · iexact H2
    iempintro
  isplitl [HT] <;> iassumption

/-- What the region leaves is the buffers after the call and what stands beside them then. -/
theorem reg_post (c : Dev nD) : (reg m).post c ⊢ iprop(StableHlo.held (c : Thread nD τ) (Pipeline.ucRefs τ sig) (W2 m c) ∗ behind c) := by
  show (iprop(StableHlo.held (c.tc : Thread nD τ) winRefs (W2 m c) ∗ (∃ r, prngReg c r)
    ∗ (StableHlo.held (c.tc : Thread nD τ) restRefs (W2 m c) ∗ emp) ∗ semVal (barCell c) 0 ∗ ∃ Wd, owes (c : Thread nD τ) 0 Wd) : sProp 𝕄) ⊢ _
  rw [StableHlo.held_sub_split (c.tc : Thread nD τ) winRefs_sub (W2 m c)]
  unfold behind owing
  iintro ⟨H1, -, ⟨H2, -⟩, HB, HO⟩
  isplitl [H1 H2]; · isplitl [H1] <;> iassumption
  isplitl [HB] <;> iassumption

end Cert.KernelIdealProof

end
-- ==== Proof.KernelIdeal.Launch.lean ====
/- The launch: the cells and duty tokens of the exchange dealt to the devices, the credits, and the program's run. -/
module

public import proofs.«01_k».proof.Proof.KernelIdeal.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

/-! ## The cells and the tokens -/

/-- Distinct channel ends have distinct semaphores. -/
theorem osem_inj : Function.Injective osem := by decide
/-- No channel's semaphore is the barrier's. -/
theorem osem_ne_bar : ∀ p, osem p ≠ .reg barrier0 := by decide

/-- A cell determines its device. -/
theorem dev_of_cell {c d : Dev nD} {s t : SemLoc sig} (h : (((c : Thread nD τ), s) : GSem nD τ sig) = ((d : Thread nD τ), t)) : c = d :=
  congrArg (fun g : GSem nD τ sig => g.1.1) h

def barAt : Dev nD ↪ GSem nD τ sig := ⟨fun c => barCell c, fun _ _ h => dev_of_cell h⟩
def chanAt : Dev nD × (Chan × Fin 2) ↪ GSem nD τ sig :=
  ⟨fun p => ((p.1 : Thread nD τ), osem p.2), fun _ _ h => Prod.ext (dev_of_cell h) (osem_inj (congrArg Prod.snd h))⟩

/-- The barrier cells, whose counters exist at launch. -/
abbrev barCells : Finset (GSem nD τ sig) := Finset.univ.map barAt
/-- The channels' send and receive cells, whose counters the region allocates. -/
abbrev chanCells : Finset (GSem nD τ sig) := Finset.univ.map chanAt

/-- No cell is both a barrier's and a channel's. -/
theorem cells_disjoint : Disjoint barCells chanCells := by
  rw [Finset.disjoint_left]
  rintro g h1 h2
  obtain ⟨c, -, rfl⟩ := Finset.mem_map.mp h1
  obtain ⟨p, -, h⟩ := Finset.mem_map.mp h2
  exact osem_ne_bar p.2 (congrArg Prod.snd h)

/-- Every barrier cell takes part in the exchange. -/
theorem bar_mem (c : Dev nD) : barCell c ∈ barCells ∪ chanCells :=
  Finset.mem_union_left _ (Finset.mem_map_of_mem barAt (Finset.mem_univ c))
/-- Every send cell takes part in the exchange. -/
theorem send_mem (c : Dev nD) (ch : Chan) : sendCell c ch ∈ barCells ∪ chanCells :=
  Finset.mem_union_right _ (Finset.mem_map_of_mem chanAt (Finset.mem_univ (c, ch, (0 : Fin 2))))
/-- Every receive cell takes part in the exchange. -/
theorem recv_mem (c : Dev nD) (ch : Chan) : recvCell c ch ∈ barCells ∪ chanCells :=
  Finset.mem_union_right _ (Finset.mem_map_of_mem chanAt (Finset.mem_univ (c, ch, (1 : Fin 2))))

def barTok : Dev nD × Fin 2 ↪ GSem nD τ sig × ℕ × Fin 2 :=
  ⟨fun p => (barCell p.1, 0, p.2), fun _ _ h => Prod.ext (dev_of_cell (congrArg Prod.fst h)) (congrArg (fun t => t.2.2) h)⟩
def chanTok : Dev nD × (Chan × Fin 2) ↪ GSem nD τ sig × ℕ × Fin 2 :=
  ⟨fun p => (chanAt p, 0, 0), fun _ _ h => chanAt.injective (congrArg Prod.fst h)⟩

/-- Every duty's token: two a barrier cell, one a channel cell. -/
abbrev tokens : Finset (GSem nD τ sig × ℕ × Fin 2) := Finset.univ.map barTok ∪ Finset.univ.map chanTok

/-- No duty is both a barrier's and a channel's. -/
theorem tokens_disjoint : Disjoint (Finset.univ.map barTok) (Finset.univ.map chanTok) := by
  rw [Finset.disjoint_left]
  rintro g h1 h2
  obtain ⟨p, -, rfl⟩ := Finset.mem_map.mp h1
  obtain ⟨q, -, h⟩ := Finset.mem_map.mp h2
  exact osem_ne_bar q.2 (congrArg (fun t : GSem nD τ sig × ℕ × Fin 2 => t.1.2) h)

/-- The launch's ghost element: the staging cells' part and the exchange's. -/
def u₀ : UU :=
  (initOf (Pipeline.cells (Pipeline.pin (pcfgs (F := F)) adm) cellOf_inj) (Pipeline.launchToks (Pipeline.pin (pcfgs (F := F)) adm) cellOf_inj),
    launchOf barCells chanCells tokens)

/-- All of a resource on device 0. -/
def atZero (P : sProp 𝕄) (c : Dev nD) : sProp 𝕄 := if c = 0 then P else iprop(emp)
/-- What device 0 alone starts with is all there is of it. -/
theorem atZero_all (P : sProp 𝕄) : bigSep Finset.univ (atZero P) = P := by
  have h0 : bigSep (Finset.univ.erase (0 : Dev nD)) (atZero P) = (BI.emp : sProp 𝕄) := by
    rw [bigSep_congr (s := Finset.univ.erase (0 : Dev nD)) (Ψ := fun _ => (BI.emp : sProp 𝕄)) fun c hc => by
      unfold atZero; rw [if_neg (Finset.ne_of_mem_erase hc)]; rfl, BI.bigSep_emp_const]
  rw [bigSep_univ_at _ (0 : Dev nD), h0]
  unfold atZero; rw [if_pos rfl]
  exact BI.equiv_iff.mp sep_emp

abbrev ghost₀ : Dev nD → sProp 𝕄 := atZero (BI.own (ER (launchOf barCells chanCells tokens)))

/-! ## Dealing the tokens -/

def xpE : Dev nD ≃ Dev nD := ⟨xp, xp, xp_xp, xp_xp⟩
def ypE : Dev nD ≃ Dev nD := ⟨yp, yp, yp_yp, yp_yp⟩
def partnerE (ch : Chan) : Dev nD ≃ Dev nD := ⟨partner ch, partner ch, partner_partner ch, partner_partner ch⟩

/-- A device's barrier duties: the two it pays, one at either partner. -/
def barDuty (c : Dev nD) : sProp 𝕄 := iprop(dutyTok ER (barCell (xp c)) 0 0 ∗ dutyTok ER (barCell (yp c)) 0 1)
/-- A device's duties on a channel: its own send cell's, and its partner's receive cell's. -/
def chanDuty (c : Dev nD) (ch : Chan) : sProp 𝕄 := iprop(dutyTok ER (sendCell c ch) 0 0 ∗ dutyTok ER (recvCell (partner ch c) ch) 0 0)

/-- The duties at the barrier cells, dealt to the devices that pay them. -/
theorem deal_bar : bigSep (Finset.univ.map barTok) (fun t => (dutyTok ER t.1 t.2.1 t.2.2 : sProp 𝕄)) = bigSep Finset.univ fun c : Dev nD => barDuty c := by
  have ex : (bigSep Finset.univ fun c : Dev nD => (dutyTok ER (barCell (xp c)) 0 0 : sProp 𝕄)) = bigSep Finset.univ fun c : Dev nD => dutyTok ER (barCell c) 0 0 :=
    (bigSep_univ_equiv xpE fun c : Dev nD => (dutyTok ER (barCell c) 0 0 : sProp 𝕄)).symm
  have ey : (bigSep Finset.univ fun c : Dev nD => (dutyTok ER (barCell (yp c)) 0 1 : sProp 𝕄)) = bigSep Finset.univ fun c : Dev nD => dutyTok ER (barCell c) 0 1 :=
    (bigSep_univ_equiv ypE fun c : Dev nD => (dutyTok ER (barCell c) 0 1 : sProp 𝕄)).symm
  unfold barDuty
  rw [bigSep_map, bigSep_univ_prod, bigSep_sep', ex, ey, ← bigSep_sep']
  exact bigSep_congr fun c _ => (bigSep_two (F := F) _)

/-- Over devices then channels, or over channels then devices: the same. -/
theorem exchange_order (Φ : Dev nD → Chan → sProp 𝕄) : (bigSep Finset.univ fun c : Dev nD => bigSep Finset.univ fun ch : Chan => Φ c ch)
    = bigSep Finset.univ fun ch : Chan => bigSep Finset.univ fun c : Dev nD => Φ c ch :=
  ((bigSep_univ_prod fun p : Dev nD × Chan => Φ p.1 p.2).symm.trans
    (bigSep_univ_equiv (Equiv.prodComm Chan (Dev nD)) fun p : Dev nD × Chan => Φ p.1 p.2)).trans (bigSep_univ_prod fun p : Chan × Dev nD => Φ p.2 p.1)

/-- The duties at the receive cells, dealt to the devices that send there. -/
theorem deal_recv : (bigSep Finset.univ fun c : Dev nD => bigSep Finset.univ fun ch : Chan => (dutyTok ER (recvCell c ch) 0 0 : sProp 𝕄))
    = bigSep Finset.univ fun c : Dev nD => bigSep Finset.univ fun ch : Chan => dutyTok ER (recvCell (partner ch c) ch) 0 0 := by
  rw [exchange_order, exchange_order fun (c : Dev nD) (ch : Chan) => (dutyTok ER (recvCell (partner ch c) ch) 0 0 : sProp 𝕄)]
  exact bigSep_congr fun ch _ => bigSep_univ_equiv (partnerE ch) fun c : Dev nD => (dutyTok ER (recvCell c ch) 0 0 : sProp 𝕄)

/-- The duties at the channels' cells, dealt to the devices that pay them. -/
theorem deal_chan : bigSep (Finset.univ.map chanTok) (fun t => (dutyTok ER t.1 t.2.1 t.2.2 : sProp 𝕄))
    = bigSep Finset.univ fun c : Dev nD => bigSep Finset.univ fun ch : Chan => chanDuty c ch := by
  unfold chanDuty
  rw [bigSep_map, bigSep_univ_prod]
  have e (c : Dev nD) : (bigSep Finset.univ fun p : Chan × Fin 2 => (dutyTok ER (chanTok (c, p)).1 (chanTok (c, p)).2.1 (chanTok (c, p)).2.2 : sProp 𝕄))
      = iprop((bigSep Finset.univ fun ch : Chan => dutyTok ER (sendCell c ch) 0 0) ∗ bigSep Finset.univ fun ch : Chan => dutyTok ER (recvCell c ch) 0 0) := by
    rw [bigSep_univ_prod, ← bigSep_sep']
    exact bigSep_congr fun ch _ => (bigSep_two (F := F) _)
  rw [bigSep_congr fun c _ => e c, bigSep_sep', deal_recv, ← bigSep_sep']
  exact bigSep_congr fun c _ => (bigSep_sep' _ _ _).symm

/-- The rights to open the channels' cells, device by device. -/
theorem deal_open : bigSep chanCells (fun g => (openTok ER g : sProp 𝕄))
    = bigSep Finset.univ fun c : Dev nD => bigSep Finset.univ fun ch : Chan => iprop(openTok ER (sendCell c ch) ∗ openTok ER (recvCell c ch)) := by
  rw [bigSep_map, bigSep_univ_prod]
  refine bigSep_congr fun c _ => ?_
  rw [bigSep_univ_prod]
  exact bigSep_congr fun ch _ => (bigSep_two (F := F) _)

/-! ## The credits -/

/-- A barrier cell determines its device. -/
theorem bar_inj {c d : Dev nD} (h : barCell c = barCell d) : c = d := dev_of_cell h
/-- No receive cell is a barrier cell. -/
theorem recv_ne_bar (c d : Dev nD) (ch : Chan) : recvCell c ch ≠ barCell d := fun h => osem_ne_bar (ch, 1) (congrArg Prod.snd h)
/-- A receive cell determines its device and its channel. -/
theorem recv_inj {c d : Dev nD} {ch e : Chan} (h : recvCell c ch = recvCell d e) : c = d ∧ ch = e :=
  ⟨dev_of_cell h, congrArg Prod.fst (osem_inj (a₁ := (ch, 1)) (a₂ := (e, 1)) (congrArg Prod.snd h))⟩

/-- What is owed on channels is owed to no barrier cell. -/
theorem owedOn_bar (d c : Dev nD) : ∀ l : List Chan, owedOn d l (barCell c) () = 0
  | [] => rfl
  | ch :: l => by
    show owedOn d l (barCell c) () + tallyAt (recvCell (partner ch d) ch) () N (barCell c) () = 0
    rw [owedOn_bar d c l, tallyAt_apply, if_neg (fun h => recv_ne_bar _ _ _ h.1.symm)]

/-- What a device owes a barrier cell at launch: a unit if it is a partner of that cell's device. -/
theorem owed_bar (d c : Dev nD) : O₀ d (barCell c) () = (if d = yp c then 1 else 0) + if d = xp c then 1 else 0 := by
  show owedOn d order (barCell c) () + tallyAt (barCell (yp d)) () 1 (barCell c) () + tallyAt (barCell (xp d)) () 1 (barCell c) () = _
  rw [owedOn_bar, tallyAt_apply, tallyAt_apply, zero_add]
  have hy : (barCell c = barCell (yp d) ∧ () = ()) ↔ d = yp c :=
    ⟨fun h => by rw [bar_inj h.1, yp_yp], fun h => by subst h; rw [yp_yp]; exact ⟨rfl, rfl⟩⟩
  have hx : (barCell c = barCell (xp d) ∧ () = ()) ↔ d = xp c :=
    ⟨fun h => by rw [bar_inj h.1, xp_xp], fun h => by subst h; rw [xp_xp]; exact ⟨rfl, rfl⟩⟩
  rw [if_congr hy rfl rfl, if_congr hx rfl rfl]

/-- What a device owes a receive cell on the channels of a list: one landing, if it is the sender and the channel is listed. -/
theorem owedOn_recv (d c : Dev nD) (ch : Chan) : ∀ l : List Chan, l.Nodup →
    owedOn d l (recvCell c ch) () = if ch ∈ l ∧ d = partner ch c then N else 0
  | [], _ => by rw [if_neg (fun h => absurd h.1 (List.not_mem_nil))]; rfl
  | e :: l, hl => by
    show owedOn d l (recvCell c ch) () + tallyAt (recvCell (partner e d) e) () N (recvCell c ch) () = _
    rw [owedOn_recv d c ch l hl.of_cons, tallyAt_apply]
    by_cases he : ch = e
    · subst he
      rw [if_neg (fun h => (List.nodup_cons.mp hl).1 h.1), zero_add]
      refine if_congr ⟨fun h => ⟨List.mem_cons_self, ?_⟩, fun h => ⟨?_, rfl⟩⟩ rfl rfl
      · rw [(recv_inj h.1).1, partner_partner]
      · rw [h.2, partner_partner]
    · rw [if_neg (c := recvCell c ch = recvCell (partner e d) e ∧ () = ()) (fun h => he (recv_inj h.1).2), add_zero]
      refine if_congr ⟨fun h => ⟨List.mem_cons_of_mem _ h.1, h.2⟩, fun h => ⟨?_, h.2⟩⟩ rfl rfl
      exact (List.mem_cons.mp h.1).resolve_left he

/-- Every channel is in the order of sending. -/
theorem order_all : ∀ ch : Chan, ch ∈ order := by decide

/-- What a device owes a receive cell at launch: one landing, if it is the sender. -/
theorem owed_recv (d c : Dev nD) (ch : Chan) : O₀ d (recvCell c ch) () = if d = partner ch c then N else 0 := by
  show owedOn d order (recvCell c ch) () + tallyAt (barCell (yp d)) () 1 (recvCell c ch) () + tallyAt (barCell (xp d)) () 1 (recvCell c ch) () = _
  rw [owedOn_recv d c ch order (by decide), tallyAt_apply, tallyAt_apply, if_neg (c := recvCell c ch = barCell (yp d) ∧ () = ()) (fun h => recv_ne_bar _ _ _ h.1),
    if_neg (c := recvCell c ch = barCell (xp d) ∧ () = ()) (fun h => recv_ne_bar _ _ _ h.1), add_zero, add_zero]
  exact if_congr ⟨fun h => h.2, fun h => ⟨order_all ch, h⟩⟩ rfl rfl

/-- The launch credits a barrier cell with two units. -/
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]

/-- The launch credits a receive cell with one landing. -/
theorem credit_recv (c : Dev nD) (ch : Chan) :
    tallyOn (recvCell c ch) (launchCredit (Pipeline.owing O₀) 0 (recvCell c ch)) = (tallyAt (recvCell c ch) () N : CellTallies nD τ sig Unit) := by
  unfold tallyAt; refine congrArg _ (Finsupp.ext fun u => ?_); cases u
  rw [Pipeline.launchCredit_owing, Finsupp.single_eq_same, Finset.sum_congr rfl fun d _ => owed_recv d c ch,
    Finset.sum_ite_eq' Finset.univ (partner ch c) fun _ => N, if_pos (Finset.mem_univ _)]

def recvAt : Chan ↪ SemLoc sig := ⟨fun ch => osem (ch, 1), fun _ _ h => congrArg Prod.fst (osem_inj h)⟩

/-- A device's credit at launch: its barrier cell's and its receive cells'. -/
theorem credits (c : Dev nD) : (Pipeline.launchCred O₀ c : sProp 𝕄)
    ⊢ iprop(cred (tallyAt (barCell c) () 2) ∗ bigSep Finset.univ fun ch : Chan => cred (tallyAt (recvCell c ch) () N)) := by
  have hsub : Finset.univ.map recvAt ⊆ Finset.univ.erase (SemLoc.reg barrier0 : SemLoc sig) := fun s hs => by
    obtain ⟨ch, -, rfl⟩ := Finset.mem_map.mp hs
    exact Finset.mem_erase.mpr ⟨osem_ne_bar (ch, 1), Finset.mem_univ _⟩
  have hsplit (Φ : SemLoc sig → sProp 𝕄) : bigSep (Finset.univ.erase (SemLoc.reg barrier0 : SemLoc sig)) Φ
      = iprop((bigSep Finset.univ fun ch : Chan => Φ (recvAt ch)) ∗ bigSep (Finset.univ.erase (SemLoc.reg barrier0 : SemLoc sig) \ Finset.univ.map recvAt) Φ) := by
    rw [bigSep_sdiff_split hsub, bigSep_map]; rfl
  unfold Pipeline.launchCred
  rw [bigSep_univ_at _ (SemLoc.reg barrier0), credit_bar, hsplit]
  have e : (bigSep Finset.univ fun ch : Chan => (cred (tallyOn (((c : Thread nD τ), recvAt ch) : GSem nD τ sig) (launchCredit (Pipeline.owing O₀) 0 ((c : Thread nD τ), recvAt ch))) : sProp 𝕄))
      = bigSep Finset.univ fun ch : Chan => cred (tallyAt (recvCell c ch) () N) := bigSep_congr fun ch _ => congrArg _ (credit_recv c ch)
  iintro ⟨H1, H2, -⟩
  isplitl [H1]; · iexact H1
  iapply (Entails.of_eq e) $$ H2

end Cert.KernelIdealProof

end
-- ==== Proof.KernelIdeal.Run.lean ====
/- The run of the program: from any memory with zero counters it ends with the result of every device named, the arguments as launched and every
   counter at zero. -/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

variable (m : (ℓ : Loc nD τ sig) → Buf (Elt F) ℓ) (ρ : Dev nD → PrngReg)

/-- What the launch deals a device of the exchange: its barrier position, the rights to open its channels' cells, the tokens of the duties it pays. -/
def dealt (c : Dev nD) : sProp 𝕄 :=
  iprop(atPos ER (barCell c) 0 ∅ 0 ∗ (bigSep Finset.univ fun ch : Chan => iprop(openTok ER (sendCell c ch) ∗ openTok ER (recvCell c ch)))
    ∗ barDuty c ∗ bigSep Finset.univ fun ch : Chan => chanDuty c ch)

/-- What it holds beside: its buffers, its credits, what it owes, its generator register. -/
def beside (c : Dev nD) : sProp 𝕄 :=
  iprop(StableHlo.held (c : Thread nD τ) (Pipeline.ucRefs τ sig) (V0 m c) ∗ (cred (tallyAt (barCell c) () 2) ∗ bigSep Finset.univ fun ch : Chan => cred (tallyAt (recvCell c ch) () N))
    ∗ owes (c : Thread nD τ) (O₀ c) ∅ ∗ ∃ r, prngReg c r)

abbrev T₀ (c : Dev nD) : sProp 𝕄 := iprop(StableHlo.held (c : Thread nD τ) (Pipeline.ucRefs τ sig) (V0 m c) ∗ before m c)
abbrev Tₙ (c : Dev nD) : sProp 𝕄 := iprop(StableHlo.held (c : Thread nD τ) (Pipeline.ucRefs τ sig) (W2 m c) ∗ semVal (barCell c) 0)

/-- The rights to open, the duties and the credit of a device's channels, gathered channel by channel. -/
theorem shut_intro (c : Dev nD) :
    iprop((bigSep Finset.univ fun ch : Chan => iprop(openTok ER (sendCell c ch) ∗ openTok ER (recvCell c ch)))
      ∗ (bigSep Finset.univ fun ch : Chan => chanDuty c ch) ∗ bigSep Finset.univ fun ch : Chan => cred (tallyAt (recvCell c ch) () N))
      ⊢ (bigSep Finset.univ fun ch : Chan => shut c ch : sProp 𝕄) := by
  rw [← bigSep_sep', ← bigSep_sep']
  have h (ch : Chan) : iprop((openTok ER (sendCell c ch) ∗ openTok ER (recvCell c ch)) ∗ chanDuty c ch ∗ cred (tallyAt (recvCell c ch) () N)) ⊢ (shut c ch : sProp 𝕄) := by
    unfold shut chanDuty
    iintro ⟨H1, ⟨H2, H3⟩, H4⟩
    isplitl [H1]; · iexact H1
    isplitl [H2]; · iexact H2
    isplitl [H3] <;> iassumption
  exact bigSep_mono fun ch _ => h ch

/-- What the launch deals a device, with the records of all cells, is what its thread starts with. -/
theorem start_intro (K : GSem nD τ sig → ℕ) (c : Dev nD) : iprop(records (X (ins m)) K ∗ (dealt c ∗ beside m c)) ⊢ T₀ m c := by
  unfold dealt beside T₀ before Tk barSt barDuty owing
  iintro ⟨#HR, ⟨Hat, Ho, ⟨Hx, Hy⟩, Hd⟩, Hh, ⟨Hc, Hcs⟩, HO, Hp⟩
  isplitl [Hh]; · iexact Hh
  isplitr [Hp HO]
  · iexists K
    isplitr; · iexact HR
    isplitl [Hat Hx Hy Hc]
    · isplitl [Hat]; · iexact Hat
      isplitl [Hx]; · iexact Hx
      isplitl [Hy] <;> iassumption
    iapply (shut_intro c)
    isplitl [Ho]; · iexact Ho
    isplitl [Hd] <;> iassumption
  isplitl [Hp]; · iexact Hp
  iexists ∅; iexact HO

/-- A persistent fact that gives each conjunct gives all. -/
theorem each {I : Type} [Fintype I] [DecidableEq I] (R : sProp 𝕄) [BI.Persistent R] (Ψ : I → sProp 𝕄) (h : ∀ a, R ⊢ Ψ a) : R ⊢ bigSep Finset.univ Ψ := by
  have h' (a : I) : iprop(R ∗ emp) ⊢ Ψ a := by
    iintro ⟨H, -⟩
    iapply (h a) $$ H
  have hb : iprop(R ∗ bigSep Finset.univ fun _ : I => iprop(emp)) ⊢ bigSep Finset.univ Ψ :=
    bigSep_with_persistent (R := R) (Φ := fun _ : I => iprop(emp)) fun a _ => h' a
  iintro H
  iapply hb
  isplitl [H]; · iexact H
  iapply (Entails.of_eq (BI.bigSep_emp_const Finset.univ).symm)
  iempintro

/-- The invariants of all cells, and every barrier cell's round 0, are the records. -/
theorem records_intro (K : GSem nD τ sig → ℕ) :
    iprop((bigSep (barCells ∪ chanCells) fun g => cellInv ER (talkRd (X (ins m))) (K g) g) ∗ bigSep barCells fun g => reached ER g 0)
      ⊢ (records (X (ins m)) K : sProp 𝕄) := by
  have hi {g : GSem nD τ sig} (hg : g ∈ barCells ∪ chanCells) :
      (bigSep (barCells ∪ chanCells) fun g => (cellInv ER (talkRd (X (ins m))) (K g) g : sProp 𝕄)) ⊢ cellInv ER (talkRd (X (ins m))) (K g) g := bigSep_elim hg
  have hr (c : Dev nD) : (bigSep barCells fun g => (reached ER g 0 : sProp 𝕄)) ⊢ reached ER (barCell c) 0 :=
    bigSep_elim (Finset.mem_map_of_mem barAt (Finset.mem_univ c))
  have hch (c : Dev nD) (ch : Chan) : (bigSep (barCells ∪ chanCells) fun g => cellInv ER (talkRd (X (ins m))) (K g) g)
      ⊢ (iprop(cellInv ER (talkRd (X (ins m))) (K (sendCell c ch)) (sendCell c ch) ∗ cellInv ER (talkRd (X (ins m))) (K (recvCell c ch)) (recvCell c ch)) : sProp 𝕄) := by
    iintro #H
    isplitr; · iapply (hi (send_mem c ch)); iexact H
    iapply (hi (recv_mem c ch)); iexact H
  unfold records
  refine each _ _ fun c => ?_
  iintro ⟨#H, #Hr⟩
  isplitr
  · isplitr; · iapply (hi (bar_mem c)); iexact H
    iapply (hr c); iexact Hr
  iapply (each _ _ (hch c)); iexact H

/-- The barrier's is the only semaphore that outlives the call. -/
theorem unscoped_only : ∀ sm : SemLoc sig, sm.isScoped .tc = false → sm = .reg barrier0 := by decide

/-- The counters that outlive the call are the barrier's, at zero. -/
theorem barrier_counter (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- The launch, on all devices at once: the barrier cells funded from their counters, the channels' cells left to the region, the tokens dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ ghost₀ c)
      ⊢ (iprop(beside m c ∗ (semVal (barCell c) 0 ∗ ghost₀ c)) : sProp 𝕄) := by
    rw [show unscopedBufs c (fun b => m ((c : Thread nD τ).loc b)) = StableHlo.held (c : Thread nD τ) (Pipeline.ucRefs τ sig) (V0 m c) from
      Pipeline.unscopedBufs_held c (V0 m c), barrier_counter]
    unfold beside
    iintro ⟨Hh, Hs, HO, Hc, Hp, HG⟩
    ihave Hc' := (credits (F := F) c) $$ Hc
    isplitl [Hh HO Hc' Hp]
    · isplitl [Hh]; · iexact Hh
      isplitl [Hc']; · iexact Hc'
      isplitl [HO]; · iexact HO
      iexists (ρ c); iexact Hp
    isplitl [Hs] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost₀ c))
      ⊢ (bigSep Finset.univ fun c : Dev nD => iprop(beside m c ∗ (semVal (barCell c) 0 ∗ ghost₀ c)) : sProp 𝕄) := bigSep_mono fun c _ => hcore c
  have hparts : (bigSep Finset.univ fun c : Dev nD => iprop(beside m c ∗ (semVal (barCell c) 0 ∗ ghost₀ c)) : sProp 𝕄)
      ⊢ iprop((bigSep Finset.univ fun c : Dev nD => beside m c) ∗ bigSep barCells (fun g => semVal g 0) ∗ BI.own (ER (launchOf barCells chanCells tokens))) := by
    rw [bigSep_sep', bigSep_sep', atZero_all, bigSep_map]
    exact BI.Entails.refl _
  have htok : bigSep tokens (fun t => (dutyTok ER t.1 t.2.1 t.2.2 : sProp 𝕄))
      ⊢ iprop((bigSep Finset.univ fun c : Dev nD => barDuty c) ∗ bigSep Finset.univ fun c : Dev nD => bigSep Finset.univ fun ch : Chan => chanDuty c ch) := by
    rw [bigSep_union tokens_disjoint, deal_bar, deal_chan]
    exact BI.Entails.refl _
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barAt (Φ := fun g : GSem nD τ sig => (atPos ER g 0 ∅ 0 : sProp 𝕄)))
  have hdealt : iprop((bigSep Finset.univ fun c : Dev nD => atPos ER (barCell c) 0 ∅ 0)
        ∗ (bigSep Finset.univ fun c : Dev nD => bigSep Finset.univ fun ch : Chan => iprop(openTok ER (sendCell c ch) ∗ openTok ER (recvCell c ch)))
        ∗ (bigSep Finset.univ fun c : Dev nD => barDuty c) ∗ bigSep Finset.univ fun c : Dev nD => bigSep Finset.univ fun ch : Chan => chanDuty c ch)
      ⊢ (bigSep Finset.univ fun c : Dev nD => dealt c : sProp 𝕄) := by
    unfold dealt
    rw [bigSep_sep', bigSep_sep', bigSep_sep']
  have hend (K : GSem nD τ sig → ℕ) : iprop(records (X (ins m)) K ∗ bigSep Finset.univ fun c : Dev nD => iprop(dealt c ∗ beside m c))
      ⊢ (bigSep Finset.univ (T₀ m) : sProp 𝕄) :=
    bigSep_with_persistent (R := records (X (ins m)) K) (Φ := fun c => iprop(dealt c ∗ beside m c)) fun c _ => start_intro m K c
  have hjoin : iprop((bigSep Finset.univ fun c : Dev nD => dealt c) ∗ bigSep Finset.univ fun c : Dev nD => beside m c)
      ⊢ (bigSep Finset.univ fun c : Dev nD => iprop(dealt c ∗ beside m c) : sProp 𝕄) := Entails.of_eq (bigSep_sep' _ _ _).symm
  iintro ⟨H, -⟩
  ihave H := hall $$ H
  ihave H := hparts $$ H
  icases H with ⟨HB, Hv, Hu⟩
  imod (Rounds.fund_launch ER (talkRd (X (ins m))) cells_disjoint (fun g _ h => h) tokens) $$ [Hv Hu] with ⟨%K, -, #Hinv, #Hr, Hat, Hop, Htok⟩
  · isplitl [Hv] <;> iassumption
  imodintro
  iapply (hend K)
  isplitr
  · iapply (records_intro m K)
    isplitr; · iexact Hinv
    iexact Hr
  iapply hjoin
  isplitr [HB]
  · iapply hdealt
    isplitl [Hat]; · iapply hat $$ Hat
    isplitl [Hop]; · iapply (Entails.of_eq (deal_open (F := F))) $$ Hop
    iapply htok $$ Htok
  iexact HB

/-! ## The run -/

/-- What a device's final memory is read for. -/
def Final (c : Dev nD) (s : MemSt nD τ sig (Elt F)) : Prop :=
  (∀ b ∈ Pipeline.ucRefs τ sig, s.mem ((c : Thread nD τ).1, b) = W2 m c b) ∧ s.sem (barCell c) = 0

/-- A buffer that outlives the call is among those held throughout. -/
theorem uc_mem (r : Ref sig .tc) (h : r.isScoped = false) : (Proc.devRef .tc r : DevRef τ sig) ∈ Pipeline.ucRefs τ sig :=
  Finset.mem_filter.mpr ⟨StableHlo.devRef_mem_tcRefs r, by simpa using h⟩

/-- What a thread ends with fixes the final memory: the result as computed, the arguments as launched. -/
theorem final_read (c : Dev nD) (s' : Phys nD τ sig (Elt F)) : iprop(Tₙ m c ∗ SI s') ⊢ (|={Set.univ}=> iprop(⌜Final m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (W2 m c) s') $$ [Hh HSI]
  · isplitl [Hh] <;> iassumption
  icases Hr with ⟨%h, HSI⟩
  imodintro
  isplitr
  · ipureintro; exact ⟨h, by simpa using hb⟩
  iexact HSI

abbrev rest : Fin 2 → Dev nD → sProp 𝕄 := fun i c => match i with
  | 0 => before m c
  | 1 => behind c

set_option backward.isDefEq.respectTransparency.types false in
/-- From any memory with zero counters every weakly fair execution of the program on the four devices terminates; at the end every device's
    buffers read as the last valuation says, and every counter is zero. -/
theorem run_final : θ_run defs (onTc (τ := τ) (main (F := F))) ⟨m, fun _ => 0, ρ⟩ fun r =>
    (∀ c : Dev nD, Final m c r.2) ∧ r.2.sem = fun _ => 0 :=
  Pipeline.θ_run_regions_kit_dev_sems (pcfgs (F := F)) adm (pdats m) () cellOf_inj EP defs₀ 𝒱₀ L lv m ρ main
    (segs m 𝒱₀ L lv (rest m) () (pdats m) (reg m))
    (fun c Q => by
      rewrite [main_chain c, Seg.run_eq_chain,
        show (segs m 𝒱₀ L lv (rest m) () (pdats m) (reg m) c).map Seg.prog = [
          StableHlo.seq (hostOps0 c),
          Prog.lift (.customCall (Pipeline.entry 0) ()) ] from rfl]
      exact .rfl)
    (fun c => by simp only [segs, Seg.pipes_host, Seg.pipes_region, Seg.pipes_nil]; decide)
    O₀ L_of_ne ghost₀ u₀
    (by
      unfold u₀
      iintro Hu
      ihave H := (ownU_pair _ _) $$ Hu
      icases H with ⟨HP, HX⟩
      imodintro
      isplitl [HP]; · iexact HP
      rw [atZero_all]; iexact HX)
    (T₀ m) (Tₙ m)
    (fun c => ⟨.rfl, reg_pre m c, (reg_post m c).trans (by
      unfold behind Tₙ owing
      iintro ⟨Hh, Hb, HO⟩
      isplitr [HO]
      · isplitl [Hh] <;> iassumption
      iexact HO)⟩)
    (init m ρ)
    (Final m)
    (final_read m)
    (fun s h hs => ⟨h, sem_eq_zero hs fun c sm hsm => by
      obtain rfl := unscoped_only sm hsm
      exact (h c).2⟩)

/-- The same read out: the result of every device, the arguments as launched, every counter zero. -/
theorem run_main : θ_run defs (onTc (τ := τ) (main (F := F))) ⟨m, fun _ => 0, ρ⟩ fun r =>
    (∀ c : Dev nD, r.2.mem ((c.tc : Thread nD τ).loc main_v22) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 := by
  have hold (c : Dev nD) (s : MemSt nD τ sig (Elt F)) (h : Final m c s) (r : Ref sig .tc) (hu : r.isScoped = false) (hr : r ≠ main_v22) (hw : r ∉ hostOps0_W) :
      s.mem ((c.tc : Thread nD τ).loc r) = m ((c.tc : Thread nD τ).loc r) :=
    (h.1 (Proc.devRef .tc r) (uc_mem r hu)).trans ((W2_of m c r hr).trans ((V1_of m c r hw).trans rfl))
  refine (θ_run defs _ _).mono (fun r h => ⟨fun c => ⟨?_, ?_, ?_, ?_, ?_, ?_⟩, h.2⟩) (run_final m ρ)
  · exact ((h.1 c).1 (Proc.devRef .tc main_v22) (uc_mem main_v22 (by decide))).trans (W2_out m c)
  · exact hold c r.2 (h.1 c) main_arg0 (by decide) (by decide) (by decide)
  · exact hold c r.2 (h.1 c) main_arg1 (by decide) (by decide) (by decide)
  · exact hold c r.2 (h.1 c) main_arg2 (by decide) (by decide) (by decide)
  · exact hold c r.2 (h.1 c) main_arg3 (by decide) (by decide) (by decide)
  · exact hold c r.2 (h.1 c) main_arg4 (by decide) (by decide) (by decide)

end Cert.KernelIdealProof

end
-- ==== Proof.Frames.lean ====
/- The frame claims: each program runs, its arguments end as launched and every counter ends at zero. -/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Proof

open Idealize.ShloMosaic Idealize.SL.Sem

/-- The kernel at bit-exact floats: its run with the results dropped. -/
theorem frame_kernel : Cert.quiescent_Kernel := by
  intro m g _
  exact (θ_run Cert.Kernel.defs _ _).mono (fun r h => ⟨fun c => (h.1 c).2, h.2⟩) (Cert.KernelProof.run_main (F := Bits) m g)

/-- The kernel over the extended reals: the same run. -/
theorem frame_ideal : Cert.quiescent_KernelIdeal := by
  intro m g _
  exact (θ_run Cert.KernelIdeal.defs _ _).mono (fun r h => ⟨fun c => (h.1 c).2, h.2⟩) (Cert.KernelIdealProof.run_main (F := Ideal) m g)

/-- The reference over the extended reals: it declares no counter. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.Blocks.lean ====
/- The device's payloads named by head, batch entry and half: each head's context is one term of the queries, keys and values; each
   partial product is one term of the four contexts and the rows of Wo. -/
module

public import proofs.«01_k».proof.Proof.KernelIdeal.Vals

@[expose] public section

noncomputable section

namespace Cert.KernelIdealProof

open Cert.KernelIdeal Cert.KernelIdeal.Gen

open Idealize.ShloMosaic
open Idealize.ShloMosaic.TcCoe

variable {F : FTy → Type} [FloatOps F]

/-- A head's columns lie among the device's queries' columns. -/
theorem cut_ok (h : Fin 4) : S256x256.Slices ![0, 64 * h.val] S256x64 := by revert h; decide

/-- The scores of head `h`: its queries against its keys, an eighth of each product. -/
def scoreV (q : FVec F S256x256 .f32) (h : Fin 4) (k : FVec F S256x64 .bf16) : FVec F S256x256 .f32 :=
  mulf (matmul dot_S256x64_S256x64_S256x256_1_1_0_0_n_n none
      (truncf .bf16 (extractStridedSlice S256x64 ![0, 64 * h.val] q (cut_ok h)) bitsLt_bf16_f32) k
      (constant S256x256 .f32 0x00000000#32))
    (broadcast S256x256 (Scalar.ofBits .f32 0x3E000000#32))

/-- The weights before normalisation. -/
def weightV (s : FVec F S256x256 .f32) : FVec F S256x256 .f32 :=
  select k0_pay2 (exp s) (broadcast S256x256 (Scalar.ofBits .f32 0x00000000#32))

/-- The context of a head, from its weights and values. -/
def ctxV (w : FVec F S256x256 .f32) (v : FVec F S256x64 .bf16) : FVec F S256x64 .f32 :=
  mulf (matmul dot_S256x256_S256x64_S256x64_1_0_0_1_n_n none (truncf .bf16 w bitsLt_bf16_f32) v (constant S256x64 .f32 0x00000000#32))
    (broadcastTo S256x64 (divf (broadcast S256x1 (Scalar.ofBits .f32 0x3F800000#32))
      (shapeCast S256x1 (multiReduction .add [1] S256 w 0x00000000#32 reduces_S256x256_S256 (.inl rfl) rfl) shapeCasts_S256_S256x1))
      broadcasts_S256x1_S256x64)

/-- The partial product of the four heads' contexts and a half of the rows of Wo. -/
def partV (c0 c1 c2 c3 : FVec F S256x64 .f32) (wo : Vec F S256x256 .bf16) : FVec F S256x256 .f32 :=
  matmul dot_S256x256_S256x256_S256x256_1_0_0_1_n_n none
    (truncf .bf16 (concatenate S256x256 1 [⟨S256x64, c0⟩, ⟨S256x64, c1⟩, ⟨S256x64, c2⟩, ⟨S256x64, c3⟩]
      concatenates_S256x64_S256x64_S256x64_S256x64_S256x256_d1) bitsLt_bf16_f32)
    (shapeCast S256x256 wo shapeCasts_S256x256_S256x256) (constant S256x256 .f32 0x00000000#32)

namespace Ins
variable (I : Ins F)

/-- The queries of batch entry `b`. -/
def qV (b : Fin 2) : FVec F S256x256 .f32 := match b with
  | 0 => I.q0
  | 1 => I.q1

/-- The keys and the values of a head. -/
def kV (h : Fin 4) (b : Fin 2) : FVec F S256x64 .bf16 := shapeCast S256x64 (I.kh h b) shapeCasts_S1x1x256x64_S256x64
def vV (h : Fin 4) (b : Fin 2) : FVec F S256x64 .bf16 := shapeCast S256x64 (I.vh h b) shapeCasts_S1x1x256x64_S256x64

/-- The context of head `h`, batch entry `b`. -/
def cV (h : Fin 4) (b : Fin 2) : FVec F S256x64 .f32 := ctxV (weightV (scoreV (I.qV b) h (I.kV h b))) (I.vV h b)

/-- A half of the columns of Wo. -/
def woV (h : Fin 2) : Vec F S256x256 .bf16 := match h with
  | 0 => I.woA
  | 1 => I.woB

/-- The device's partial product of half `h`, batch entry `b`. -/
def pV (h b : Fin 2) : FVec F S256x256 .f32 := partV (I.cV 0 b) (I.cV 1 b) (I.cV 2 b) (I.cV 3 b) (I.woV h)

/-- The accumulator starts at the partial product. -/
theorem acc1_eq (h b : Fin 2) : I.acc1 h b = shapeCast S1x256x256 (I.pV h b) shapeCasts_S256x256_S1x256x256 := by
  match h, b with
  | 0, 0 => rfl
  | 0, 1 => rfl
  | 1, 0 => rfl
  | 1, 1 => rfl

/-- What is sent first is the partial product. -/
theorem out1_eq (h b : Fin 2) : I.out1 h b = shapeCast S1x1x256x256 (truncf .bf16 (I.pV h b) bitsLt_bf16_f32) shapeCasts_S256x256_S1x1x256x256 := by
  match h, b with
  | 0, 0 => rfl
  | 0, 1 => rfl
  | 1, 0 => rfl
  | 1, 1 => rfl

end Ins

variable (G : Dev nD → Ins F)

/-- An accumulator with what landed added. -/
def addV (a : FVec F S1x256x256 .f32) (y : FVec F S256x256 .bf16) : FVec F S1x256x256 .f32 :=
  shapeCast S1x256x256 (addf (shapeCast S256x256 a shapeCasts_S1x256x256_S256x256)
    (extf .f32 (shapeCast S256x256 (us y) shapeCasts_S1x1x256x256_S256x256) bitsLt_bf16_f32)) shapeCasts_S256x256_S1x256x256

/-- The accumulator after the first exchange: the partial product with the partner's added. -/
theorem acc2_eq (c : Dev nD) (h b : Fin 2) : acc2 G c h b = addV ((G c).acc1 h b) (X1 G (partner (h, 0, b) c) h b) := by
  match h, b with
  | 0, 0 => rfl
  | 0, 1 => rfl
  | 1, 0 => rfl
  | 1, 1 => rfl

/-- What is sent second is the accumulator after the first exchange. -/
theorem out2_eq (c : Dev nD) (h b : Fin 2) :
    out2 G c h b = shapeCast S1x1x256x256 (truncf .bf16 (shapeCast S256x256 (acc2 G c h b) shapeCasts_S1x256x256_S256x256) bitsLt_bf16_f32)
      shapeCasts_S256x256_S1x1x256x256 := by
  match h, b with
  | 0, 0 => rfl
  | 0, 1 => rfl
  | 1, 0 => rfl
  | 1, 1 => rfl

/-- A quarter of the result: the accumulator with what landed second added. -/
theorem res_eq (c : Dev nD) (h b : Fin 2) : res G c h b = addV (acc2 G c h b) (X G (partner (h, 1, b) c) (h, 1, b)) := by
  match h, b with
  | 0, 0 => rfl
  | 0, 1 => rfl
  | 1, 0 => rfl
  | 1, 1 => rfl

end Cert.KernelIdealProof

end
-- ==== Proof.Value.Softmax.lean ====
/- One row of attention over the extended reals: weights normalised before the weighted sum, with the row maximum taken off the
   scores, or normalised after it, with no maximum: the same value, once the scores are real. -/
module

public import Idealize.ShloMosaic.Lib.Pointwise

@[expose] public section

noncomputable section

namespace Cert.Attn

open Idealize.ShloMosaic

/-- An extended real that is a real. -/
def IsReal (a : EReal) : Prop := ∃ r : ℝ, a = (r : EReal)

/-- A product of reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals is real. -/
theorem IsReal.sum {ι : Type*} (t : Finset ι) {f : ι → EReal} (h : ∀ i, IsReal (f i)) : IsReal (∑ i ∈ t, f i) := by
  classical
  choose g hg using h
  refine ⟨∑ i ∈ t, g i, ?_⟩
  induction t using Finset.induction_on with
  | empty => simp
  | insert a t ha ih => rw [Finset.sum_insert ha, Finset.sum_insert ha, ih, hg, EReal.coe_add]

/-- A number whose size is below ⊤ is real. -/
theorem real_of_abs {a : EReal} (h1 : a < ⊤) (h2 : ⊥ < a) : IsReal a :=
  ⟨a.toReal, (EReal.coe_toReal h1.ne h2.ne').symm⟩

/-- A real factor that is not negative goes under a sum. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A sum of reals, taken among the reals. -/
theorem coe_sum {ι : Type*} (t : Finset ι) (g : ι → ℝ) : ∑ i ∈ t, ((g i : ℝ) : EReal) = ((∑ i ∈ t, g i : ℝ) : EReal) := by
  classical
  induction t using Finset.induction_on with
  | empty => simp
  | insert a t ha ih => rw [Finset.sum_insert ha, Finset.sum_insert ha, ih, EReal.coe_add]

/-- The word of the window: whether key `j` is within 128 of query `i`. -/
def winW (i j : Fin 256) : BitVec 1 := IntOp.cmpi .sle (IntOp.absi (IntOp.subi (BitVec.ofNat 32 i.val) (BitVec.ofNat 32 j.val))) 128#32

/-- Key `j` lies in query `i`'s window. -/
def Win (i j : Fin 256) : Prop := winW i j = 1#1

instance (i j : Fin 256) : Decidable (Win i j) := inferInstanceAs (Decidable (winW i j = 1#1))

/-- A query's own position lies in its window. -/
theorem win_self (i : Fin 256) : Win i i := by
  unfold Win winW
  have h : IntOp.subi (BitVec.ofNat 32 i.val) (BitVec.ofNat 32 i.val) = 0#32 := BitVec.sub_self _
  rw [h]
  decide

section Row

variable {n : ℕ} (p : Fin n → Prop) [DecidablePred p] (s v : Fin n → EReal)

/-- The score where the window allows it, −∞ elsewhere. -/
def masked (j : Fin n) : EReal := if p j then s j else ⊥

/-- The row's maximum. -/
def top : EReal := Finset.univ.fold max ⊥ (masked p s)

/-- The weight before normalisation, the maximum taken off. -/
def shifted (j : Fin n) : EReal := Ideal.exp (masked p s j - top p s)

/-- The weight before normalisation, no maximum taken off. -/
def plain (j : Fin n) : EReal := if p j then Ideal.exp (s j) else 0

/-- The maximum of a row of real scores is real, if the window has a key in it. -/
theorem top_real (hs : ∀ j, IsReal (s j)) {i : Fin n} (hi : p i) : IsReal (top p s) := by
  refine real_of_abs ?_ ?_
  · unfold top
    rw [Finset.fold_max_lt]
    refine ⟨bot_lt_top, fun j _ => ?_⟩
    unfold masked
    obtain ⟨r, hr⟩ := hs j
    split
    · rw [hr]; exact EReal.coe_lt_top r
    · exact bot_lt_top
  · unfold top
    rw [Finset.lt_fold_max]
    refine Or.inr ⟨i, Finset.mem_univ i, ?_⟩
    unfold masked
    obtain ⟨r, hr⟩ := hs i
    rw [if_pos hi, hr]
    exact EReal.bot_lt_coe r

/-- The weighted sum divided by the sum of the weights is the sum weighted by the divided weights. -/
theorem row (hs : ∀ j, IsReal (s j)) {i : Fin n} (hi : p i) :
    (∑ j, plain p s j * v j) * Ideal.div 1 (∑ j, plain p s j)
      = ∑ j, v j * Ideal.div (shifted p s j) (∑ j, shifted p s j) := by
  obtain ⟨μ, hμ⟩ := top_real p s hs hi
  choose σ hσ using hs
  have hp : ∀ j, plain p s j = ((if p j then Real.exp (σ j) else 0 : ℝ) : EReal) := fun j => by
    unfold plain
    split
    · rw [hσ, Ideal.exp_coe]
    · rfl
  have hq : ∀ j, shifted p s j = (((if p j then Real.exp (σ j) else 0) * Real.exp (-μ) : ℝ) : EReal) := fun j => by
    unfold shifted masked
    rw [hμ]
    split
    · rw [hσ, ← EReal.coe_sub, Ideal.exp_coe, ← Real.exp_add, sub_eq_add_neg]
    · rw [EReal.bot_sub, Ideal.exp_bot, zero_mul, EReal.coe_zero]
  simp only [hp, hq, coe_sum]
  generalize he : (fun j => if p j then Real.exp (σ j) else 0) = e
  have he' : ∀ j, (if p j then Real.exp (σ j) else 0) = e j := fun j => by rw [← he]
  simp only [he']
  have h0 : ∀ j, 0 ≤ e j := fun j => by
    rw [← he]
    dsimp only
    split
    · exact (Real.exp_pos _).le
    · exact le_refl _
  have hpos : 0 < ∑ j, e j := Finset.sum_pos' (fun j _ => h0 j) ⟨i, Finset.mem_univ i, by
    rw [← he]
    dsimp only
    rw [if_pos hi]
    exact Real.exp_pos _⟩
  have hm := Real.exp_pos (-μ)
  rw [← Finset.sum_mul, Ideal.div_coe hpos.ne', one_mul, sum_mul_coe _ _ (one_div_nonneg.mpr hpos.le)]
  refine Finset.sum_congr rfl fun j _ => ?_
  rw [Ideal.div_coe (mul_pos hpos hm).ne', ← EReal.coe_mul, mul_comm (e j : EReal), mul_assoc, ← EReal.coe_mul]
  congr 2
  field_simp

end Row

end Cert.Attn

end
-- ==== Proof.Value.Kernel.lean ====
/- The device's blocks read at an index, over the extended reals. -/
module

public import proofs.«01_k».proof.Proof.Value.Blocks
public import proofs.«01_k».proof.Proof.Value.Softmax
public import Idealize.ShloMosaic.Lib.Pointwise

@[expose] public section

noncomputable section

namespace Cert.KernelIdealProof

open Cert.KernelIdeal Cert.KernelIdeal.Gen

open Idealize.ShloMosaic
open Idealize.ShloMosaic.TcCoe
open Cert.Attn

set_option maxRecDepth 16384

/-- A score at an index: the head's query against the key, times 1/8. -/
theorem scoreV_apply (q : FVec Ideal S256x256 .f32) (h : Fin 4) (k : FVec Ideal S256x64 .bf16) (i j : Fin 256) :
    scoreV q h k (ix2 i j) = (∑ d : Fin 64, q (ix2 i ⟨64 * h.val + d.val, by omega⟩) * k (ix2 j d)) * Ideal.ofBits .f32 0x3E000000#32 := by
  pointwise [scoreV]

/-- A weight at an index: the exponential of the score inside the window, 0 outside it. -/
theorem weightV_apply (s : FVec Ideal S256x256 .f32) (i j : Fin 256) :
    weightV s (ix2 i j) = plain (Win i) (fun j => s (ix2 i j)) j := by
  pointwise [weightV, k0_pay2]
  rfl

/-- A context at an index: the weighted sum of the values, divided by the sum of the weights. -/
theorem ctxV_apply (w : FVec Ideal S256x256 .f32) (v : FVec Ideal S256x64 .bf16) (i : Fin 256) (d : Fin 64) :
    ctxV w v (ix2 i d) = (∑ j : Fin 256, w (ix2 i j) * v (ix2 j d)) * Ideal.div (Ideal.ofBits .f32 0x3F800000#32) (∑ j : Fin 256, w (ix2 i j)) := by
  pointwise [ctxV]

/-- A sum over `m * n` numbers, `n` at a time. -/
theorem sum_blocks (m n : ℕ) (f : Fin (m * n) → EReal) (hb : ∀ (h : Fin m) (d : Fin n), n * h.val + d.val < m * n) :
    ∑ x, f x = ∑ h : Fin m, ∑ d : Fin n, f ⟨n * h.val + d.val, hb h d⟩ := by
  rw [← finProdFinEquiv.sum_comp, Fintype.sum_prod_type]
  exact Finset.sum_congr rfl fun h _ => Finset.sum_congr rfl fun d _ => congrArg f (Fin.ext (Nat.add_comm _ _))

/-- Four pieces of 64 laid end to end, read at position `64 h + d`. -/
theorem pick (c : Fin 4 → Fin 64 → EReal) (h : Fin 4) (d : Fin 64) (x : ℕ) (hx : x = 64 * h.val + d.val) (hl : x - 64 - 64 - 64 < 64) :
    (if h : x < 64 then c 0 ⟨x, h⟩ else if h : x - 64 < 64 then c 1 ⟨x - 64, h⟩ else if h : x - 64 - 64 < 64 then c 2 ⟨x - 64 - 64, h⟩
      else c 3 ⟨x - 64 - 64 - 64, hl⟩) = c h d := by
  have hd := d.isLt
  have hh := h.isLt
  split_ifs with h0 h1 h2
  · obtain rfl : h = 0 := Fin.ext (by show h.val = 0; omega)
    exact congrArg (c 0) (Fin.ext (by show x = d.val; change x = 64 * 0 + d.val at hx; omega))
  · obtain rfl : h = 1 := Fin.ext (by show h.val = 1; omega)
    exact congrArg (c 1) (Fin.ext (by show x - 64 = d.val; change x = 64 * 1 + d.val at hx; omega))
  · obtain rfl : h = 2 := Fin.ext (by show h.val = 2; omega)
    exact congrArg (c 2) (Fin.ext (by show x - 64 - 64 = d.val; change x = 64 * 2 + d.val at hx; omega))
  · obtain rfl : h = 3 := Fin.ext (by show h.val = 3; omega)
    exact congrArg (c 3) (Fin.ext (by show x - 64 - 64 - 64 = d.val; change x = 64 * 3 + d.val at hx; omega))

/-- The partial product at an index: the four heads' contexts against their rows of the output weights. -/
theorem partV_apply (c : Fin 4 → FVec Ideal S256x64 .f32) (wo : Vec Ideal S256x256 .bf16) (i n : Fin 256) :
    partV (c 0) (c 1) (c 2) (c 3) wo (ix2 i n) = ∑ h : Fin 4, ∑ d : Fin 64, c h (ix2 i d) * wo (ix2 ⟨64 * h.val + d.val, by omega⟩ n) := by
  pointwise [partV]
  rw [sum_blocks 4 64 _ (fun h d => by have := h.isLt; have := d.isLt; omega)]
  refine Finset.sum_congr rfl fun h _ => Finset.sum_congr rfl fun d _ => ?_
  exact congrArg (· * _) (pick (fun h d => c h (ix2 i d)) h d _ rfl (by have := h.isLt; have := d.isLt; omega))

namespace Ins
variable (I : Ins Ideal)

/-- Batch entry 0 of `x`, as the body loads it. -/
theorem x0_apply (i : Fin 256) (k : Fin 512) : I.x0 (ix3 0 i k) = I.x (ix3 0 i k) :=
  congrArg I.x (funext fun a => Fin.ext (by fin_cases a <;> first | rfl | exact (Nat.zero_add _).trans (Nat.one_mul _)))
/-- Batch entry 1 of `x`, as the body loads it. -/
theorem x1_apply (i : Fin 256) (k : Fin 512) : I.x1 (ix3 0 i k) = I.x (ix3 1 i k) :=
  congrArg I.x (funext fun a => Fin.ext (by fin_cases a <;> first | rfl | exact (Nat.zero_add _).trans (Nat.one_mul _)))
/-- The query weights, as the body loads them. -/
theorem w_apply (k : Fin 512) (d : Fin 256) : I.w (ix2 k d) = I.wq (ix2 k d) :=
  congrArg I.wq (funext fun a => Fin.ext (by fin_cases a <;> first | rfl | exact (Nat.zero_add _).trans (Nat.one_mul _)))
/-- A head's keys, as the body loads them. -/
theorem kh_apply (h : Fin 4) (b : Fin 2) (j : Fin 256) (d : Fin 64) : I.kh h b (ix4 0 0 j d) = I.k (ix4 h b j d) :=
  congrArg I.k (funext fun a => Fin.ext (by fin_cases a <;> first | rfl | exact (Nat.zero_add _).trans (Nat.one_mul _)))
/-- A head's values, as the body loads them. -/
theorem vh_apply (h : Fin 4) (b : Fin 2) (j : Fin 256) (d : Fin 64) : I.vh h b (ix4 0 0 j d) = I.v (ix4 h b j d) :=
  congrArg I.v (funext fun a => Fin.ext (by fin_cases a <;> first | rfl | exact (Nat.zero_add _).trans (Nat.one_mul _)))

/-- A half of the output weights' columns, at an index. -/
theorem woV_apply (h : Fin 2) (t n : Fin 256) : I.woV h (ix2 t n) = I.wo (ix2 t ⟨256 * h.val + n.val, by omega⟩) := by
  match h with
  | 0 => exact congrArg I.wo (funext fun a => Fin.ext (by fin_cases a <;> first | rfl | exact (Nat.zero_add _).trans (Nat.one_mul _) | exact congrArg (_ + ·) (Nat.one_mul _)))
  | 1 => exact congrArg I.wo (funext fun a => Fin.ext (by fin_cases a <;> first | rfl | exact (Nat.zero_add _).trans (Nat.one_mul _) | exact congrArg (_ + ·) (Nat.one_mul _)))

/-- A query at an index: a row of `x` against a column of the query weights. -/
theorem qV_apply (b : Fin 2) (i d : Fin 256) : I.qV b (ix2 i d) = ∑ k : Fin 512, I.x (ix3 b i k) * I.wq (ix2 k d) := by
  match b with
  | 0 =>
    pointwise [qV, k0_pay3]
    exact Finset.sum_congr rfl fun k _ => congrArg₂ (· * ·) (I.x0_apply i k) (I.w_apply k d)
  | 1 =>
    pointwise [qV, k0_pay19]
    exact Finset.sum_congr rfl fun k _ => congrArg₂ (· * ·) (I.x1_apply i k) (I.w_apply k d)

/-- A head's keys at an index. -/
theorem kV_apply (h : Fin 4) (b : Fin 2) (j : Fin 256) (d : Fin 64) : I.kV h b (ix2 j d) = I.k (ix4 h b j d) := by
  pointwise [kV]
  exact I.kh_apply h b j d

/-- A head's values at an index. -/
theorem vV_apply (h : Fin 4) (b : Fin 2) (j : Fin 256) (d : Fin 64) : I.vV h b (ix2 j d) = I.v (ix4 h b j d) := by
  pointwise [vV]
  exact I.vh_apply h b j d

end Ins

end Cert.KernelIdealProof

end
-- ==== Proof.Value.Sum.lean ====
/- The exchange, summed up: every device ends with the sum of all four devices' partial products. -/
module

public import proofs.«01_k».proof.Proof.Value.Kernel

@[expose] public section

noncomputable section

namespace Cert.KernelIdealProof

open Cert.KernelIdeal Cert.KernelIdeal.Gen

open Idealize.ShloMosaic
open Idealize.ShloMosaic.TcCoe

set_option maxRecDepth 16384

/-- The accumulator's first value at an index: the partial product there. -/
theorem acc1_apply (I : Ins Ideal) (h b : Fin 2) (i n : Fin 256) : I.acc1 h b (ix3 0 i n) = I.pV h b (ix2 i n) := by
  rw [Ins.acc1_eq]
  pointwise

/-- What is sent first, at an index: the partial product there. -/
theorem sent1_apply (G : Dev nD → Ins Ideal) (c : Dev nD) (h b : Fin 2) (i n : Fin 256) : X1 G c h b (ix2 i n) = (G c).pV h b (ix2 i n) := by
  unfold X1 sq
  rw [Ins.out1_eq]
  pointwise

/-- Adding what landed, at an index. -/
theorem addV_apply (a : FVec Ideal S1x256x256 .f32) (y : FVec Ideal S256x256 .bf16) (i n : Fin 256) :
    addV a y (ix3 0 i n) = a (ix3 0 i n) + y (ix2 i n) := by
  pointwise [addV, us]

/-- What is sent second, at an index: the accumulator there. -/
theorem sent2_apply (G : Dev nD → Ins Ideal) (c : Dev nD) (h b : Fin 2) (i n : Fin 256) :
    X G c (h, 1, b) (ix2 i n) = acc2 G c h b (ix3 0 i n) := by
  show sq (out2 G c h b) (ix2 i n) = _
  unfold sq
  rw [out2_eq]
  pointwise

/-- The accumulator after the first exchange: the device's own partial product and its partner's. -/
theorem acc2_apply (G : Dev nD → Ins Ideal) (c : Dev nD) (h b : Fin 2) (i n : Fin 256) :
    acc2 G c h b (ix3 0 i n) = (G c).pV h b (ix2 i n) + (G (partner (h, 0, b) c)).pV h b (ix2 i n) := by
  rw [acc2_eq, addV_apply, acc1_apply, sent1_apply]

/-- A sum over the devices, taken pairwise along the partners of the two stages. -/
theorem sum_partners (f : Dev nD → EReal) (h b : Fin 2) (c : Dev nD) :
    f c + f (partner (h, 0, b) c) + (f (partner (h, 1, b) c) + f (partner (h, 0, b) (partner (h, 1, b) c))) = ∑ c', f c' := by
  have hu : (Finset.univ : Finset (Dev nD)) = {c, partner (h, 0, b) c, partner (h, 1, b) c, partner (h, 0, b) (partner (h, 1, b) c)} := by
    revert h b c
    decide
  have h1 : c ∉ ({partner (h, 0, b) c, partner (h, 1, b) c, partner (h, 0, b) (partner (h, 1, b) c)} : Finset (Dev nD)) := by
    clear hu
    revert h b c
    decide
  have h2 : partner (h, 0, b) c ∉ ({partner (h, 1, b) c, partner (h, 0, b) (partner (h, 1, b) c)} : Finset (Dev nD)) := by
    clear hu h1
    revert h b c
    decide
  have h3 : partner (h, 1, b) c ∉ ({partner (h, 0, b) (partner (h, 1, b) c)} : Finset (Dev nD)) := by
    clear hu h1 h2
    revert h b c
    decide
  rw [hu, Finset.sum_insert h1, Finset.sum_insert h2, Finset.sum_insert h3, Finset.sum_singleton, add_assoc]

/-- The result of a quarter: the sum of the devices' partial products. -/
theorem res_apply (G : Dev nD → Ins Ideal) (c : Dev nD) (h b : Fin 2) (i n : Fin 256) :
    res G c h b (ix3 0 i n) = ∑ c', (G c').pV h b (ix2 i n) := by
  rw [res_eq, addV_apply, sent2_apply, acc2_apply, acc2_apply]
  exact sum_partners (fun c' => (G c').pV h b (ix2 i n)) h b c

end Cert.KernelIdealProof

end
-- ==== Proof.Value.Host.lean ====
/- What the host operations hand the kernel: the arguments themselves, and of K and V the device's four heads. -/
module

public import Idealize.ShloMosaic.Lib.StableHlo.RunClose
public import proofs.«01_k».proof.Proof.KernelIdeal.Region
public import Idealize.ShloMosaic.Lib.Pointwise
public import Idealize.ShloMosaic.Lib.DynamicIndex

@[expose] public section

noncomputable section

namespace Cert.KernelIdealProof

open Cert.KernelIdeal Cert.KernelIdeal.Gen

open Idealize.ShloMosaic
open Idealize.ShloMosaic.TcCoe

set_option maxRecDepth 16384

/-- The first of the device's heads, as the host operations compute it. -/
def headW (c : Dev nD) : IVec S_ 32 :=
  select (cmpi .slt (muli (id (Host.remui (Host.divui (constantI S_ 32 (Dev.word c)) (constantI S_ 32 1#32)) (constantI S_ 32 4#32))) (constantI S_ 32 4#32)) (constantI S_ 32 0#32))
    (addi (muli (id (Host.remui (Host.divui (constantI S_ 32 (Dev.word c)) (constantI S_ 32 1#32)) (constantI S_ 32 4#32))) (constantI S_ 32 4#32)) (constantI S_ 32 16#32))
    (muli (id (Host.remui (Host.divui (constantI S_ 32 (Dev.word c)) (constantI S_ 32 1#32)) (constantI S_ 32 4#32))) (constantI S_ 32 4#32))

/-- Where the device's block of heads starts. -/
def startW (c : Dev nD) (k : Fin 4) : ℤ := ((![headW c, constantI S_ 32 0#32, constantI S_ 32 0#32, constantI S_ 32 0#32] : Fin 4 → IVec S_ 32) k (Shape.Idx.first h_S_)).toInt

/-- The device's four heads of an array of sixteen. -/
def takeV (c : Dev nD) (y : FVec Ideal S2x256x16x64 .f32) : FVec Ideal S4x2x256x64 .bf16 :=
  truncf .bf16 (Host.dynamicSlice S4x2x256x64 (transpose S16x2x256x64 [2, 0, 1, 3] y transposes_S2x256x16x64_S16x2x256x64_2_0_1_3) (startW c)
    sliceFits_S16x2x256x64_S4x2x256x64) bitsLt_bf16_f32

variable (m : (ℓ : Loc nD τ sig) → Buf (Elt Ideal) ℓ) (c : Dev nD)

/-- The kernel's `x` is the first argument. -/
theorem ins_x : (ins m c).x = m ((c : Thread nD τ).loc main_arg0) := by
  show V1 m c main_v19 = _
  unfold V1 hostOps0
  after_results_simp_entrywise
  rfl

/-- The kernel's query weights are the second argument. -/
theorem ins_wq : (ins m c).wq = m ((c : Thread nD τ).loc main_arg1) := by
  show V1 m c main_v20 = _
  unfold V1 hostOps0
  after_results_simp_entrywise
  rfl

/-- The kernel's keys are the device's four heads of the third argument. -/
theorem ins_k : (ins m c).k = takeV c (m ((c : Thread nD τ).loc main_arg2)) := by
  show V1 m c main_v12 = _
  unfold V1 hostOps0
  after_results_simp_entrywise
  rfl

/-- The kernel's values are the device's four heads of the fourth argument. -/
theorem ins_v : (ins m c).v = takeV c (m ((c : Thread nD τ).loc main_arg3)) := by
  show V1 m c main_v18 = _
  unfold V1 hostOps0
  after_results_simp_entrywise
  rfl

/-- The kernel's output weights are the fifth argument. -/
theorem ins_wo : (ins m c).wo = m ((c : Thread nD τ).loc main_arg4) := by
  show V1 m c main_v21 = _
  unfold V1 hostOps0
  after_results_simp_entrywise
  rfl

/-- The offsets of the device's four heads. -/
def offW (c : Dev nD) : Fin 4 → Nat := ![4 * c.val, 0, 0, 0]

/-- The block of heads starts at head `4 * c`. -/
theorem startW_eq (k : Fin 4) : startW c k = (offW c k : ℤ) := by
  revert k c
  decide

/-- The device's four heads lie among the sixteen. -/
theorem offW_fits : S16x2x256x64.Slices (offW c) S4x2x256x64 := by
  revert c
  decide

/-- The device's four heads read: head `h` of them is head `4 * c + h` of the sixteen. -/
theorem takeV_apply (y : FVec Ideal S2x256x16x64 .f32) (h : Fin 4) (b : Fin 2) (j : Fin 256) (d : Fin 64) :
    takeV c y (ix4 h b j d) = y (ix4 b j ⟨4 * c.val + h.val, by have := c.isLt; have := h.isLt; simp only [nD] at *; omega⟩ d) := by
  unfold takeV
  rw [Host.dynamicSlice_eq_extractStridedSlice _ _ _ (offW c) _ (offW_fits c) (startW_eq c)]
  pointwise [offW]

end Cert.KernelIdealProof

end
-- ==== Proof.Value.Reference.lean ====
/- The reference's result read at an index, over the extended reals. -/
module

public import proofs.«01_k».proof.Proof.Gen.ReferenceIdeal.Run
public import proofs.«01_k».proof.Proof.Value.Softmax
public import Idealize.ShloMosaic.Lib.Pointwise

@[expose] public section

noncomputable section

namespace Cert.ReferenceIdealProof

open Cert.ReferenceIdeal Cert.ReferenceIdeal.Gen

open Idealize.ShloMosaic
open Idealize.ShloMosaic.TcCoe
open Cert.Attn

set_option maxRecDepth 16384

variable {F : FTy → Type} [FloatOps F]

/-- The window. -/
def maskV : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- Whether a query keeps any key. -/
def keepV : IVec S1x1x256x1 1 :=
  broadcastInDim S1x1x256x1 ![2] bcast_S256_S1x1x256x1_2 (Host.reduce IntOp.ori maskV (constantI S_ 1 0#1) reducesTo_S256x256_S256_d1 h_S_)

/-- The scores. -/
def scoreV (x : FVec F S2x256x512 .f32) (wq : FVec F S512x1024 .f32) (k : FVec F S2x256x16x64 .f32) : FVec F S2x16x256x256 .f32 :=
  mulf (Host.dotGeneral dot_S2x256x16x64_S2x256x16x64_S2x16x256x256_3_3_1_1_02_02 none
      (shapeCast S2x256x16x64 (Host.dotGeneral dot_S2x256x512_S512x1024_S2x256x1024_2_0_01_1_n_n none x wq) shapeCasts_S2x256x1024_S2x256x16x64) k)
    (broadcastInDim S2x16x256x256 ![] bcast_S_S2x16x256x256 (constant S_ .f32 0x3E000000#32))

/-- The scores with −∞ off the window. -/
def maskedV (s : FVec F S2x16x256x256 .f32) : FVec F S2x16x256x256 .f32 :=
  select (broadcastInDim S2x16x256x256 ![0, 1, 2, 3] bcast_S1x1x256x256_S2x16x256x256_0_1_2_3
      (broadcastInDim S1x1x256x256 ![2, 3] bcast_S256x256_S1x1x256x256_2_3 maskV)) s
    (broadcastInDim S2x16x256x256 ![] bcast_S_S2x16x256x256 (id (constant S_ .f32 0xFF800000#32)))

/-- The weights before normalisation. -/
def expV (s : FVec F S2x16x256x256 .f32) : FVec F S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))

/-- The weights. -/
def weightV (e : FVec F S2x16x256x256 .f32) : FVec F S2x16x256x256 .f32 :=
  select (broadcastInDim S2x16x256x256 ![0, 1, 2, 3] bcast_S1x1x256x1_S2x16x256x256_0_1_2_3 keepV)
    (Host.divf e (broadcastInDim S2x16x256x256 ![0, 1, 2, 3] bcast_S2x16x256x1_S2x16x256x256_0_1_2_3
      (select (broadcastInDim S2x16x256x1 ![0, 1, 2, 3] bcast_S1x1x256x1_S2x16x256x1_0_1_2_3 keepV)
        (broadcastInDim S2x16x256x1 ![0, 1, 2] bcast_S2x16x256_S2x16x256x1_0_1_2
          (Host.reduceAdd e (constant S_ .f32 0x00000000#32) reducesTo_S2x16x256x256_S2x16x256_d3 h_S_))
        (broadcastInDim S2x16x256x1 ![] bcast_S_S2x16x256x1 (id (constant S_ .f32 0x3F800000#32))))))
    (broadcastInDim S2x16x256x256 ![] bcast_S_S2x16x256x256 (id (constant S_ .f32 0x00000000#32)))

/-- The result, from the weights, the values and Wo. -/
def outV (w : FVec F S2x16x256x256 .f32) (v : FVec F S2x256x16x64 .f32) (wo : FVec F S1024x512 .f32) : FVec F S2x256x512 .f32 :=
  Host.dotGeneral dot_S2x256x1024_S1024x512_S2x256x512_2_0_01_1_n_n none
    (shapeCast S2x256x1024 (transpose S2x256x16x64 [0, 3, 1, 2] (Host.dotGeneral dot_S2x256x16x64_S2x16x256x256_S2x16x64x256_1_3_3_2_02_01 none v w)
      transposes_S2x16x64x256_S2x256x16x64_0_3_1_2) shapeCasts_S2x256x16x64_S2x256x1024) wo

/-- The reference's result, step by step. -/
theorem res_eq (m : (ℓ : Loc nD τ sig) → Buf (Elt F) ℓ) (c : Dev nD) :
    Value.res_main_v34 m c = outV (weightV (expV (maskedV (scoreV (m ((c.tc : Thread nD τ).loc main_arg0)) (m ((c.tc : Thread nD τ).loc main_arg1))
      (m ((c.tc : Thread nD τ).loc main_arg2)))))) (m ((c.tc : Thread nD τ).loc main_arg3)) (m ((c.tc : Thread nD τ).loc main_arg4)) := rfl

/-- The mask at an index: the word of the window. -/
theorem maskV_apply (i j : Fin 256) : maskV (ix2 i j) = winW i j := by
  pointwise [maskV, winW]

/-- An `or` over words one of which is 1. -/
theorem fold_ori {n : ℕ} (f : Fin n → BitVec 1) (i : Fin n) (h : f i = 1#1) : Finset.univ.fold IntOp.ori (0#1) f = 1#1 := by
  rw [← Finset.insert_erase (Finset.mem_univ i), Finset.fold_insert (Finset.notMem_erase _ _), h]
  generalize Finset.fold IntOp.ori (0#1) f (Finset.univ.erase i) = y
  revert y
  decide

/-- The pattern of −∞. -/
theorem ofBits_bot : Ideal.ofBits .f32 0xFF800000#32 = ⊥ := by simp [Ideal.ofBits, Ideal.ieee]

/-- No row of the mask is empty. -/
theorem keepV_apply (i : Fin 256) : keepV (ix4 0 0 i 0) = 1#1 := by
  pointwise [keepV]
  exact fold_ori _ i ((maskV_apply i i).trans (win_self i))

/-- The reference's score at an index: the query against the key, times 1/8. -/
theorem scoreV_apply (x : FVec Ideal S2x256x512 .f32) (wq : FVec Ideal S512x1024 .f32) (k : FVec Ideal S2x256x16x64 .f32)
    (b : Fin 2) (H : Fin 16) (i j : Fin 256) :
    scoreV x wq k (ix4 b H i j) = (∑ d : Fin 64, (∑ l : Fin 512, x (ix3 b i l) * wq (ix2 l ⟨64 * H.val + d.val, by omega⟩)) * k (ix4 b j H d))
      * Ideal.ofBits .f32 0x3E000000#32 := by
  pointwise [scoreV]
  simp only [Nat.mul_comm]

/-- The masked score at an index: the score inside the window, −∞ outside it. -/
theorem maskedV_apply (s : FVec Ideal S2x16x256x256 .f32) (b : Fin 2) (H : Fin 16) (i j : Fin 256) :
    maskedV s (ix4 b H i j) = masked (Win i) (fun j => s (ix4 b H i j)) j := by
  pointwise [maskedV]
  rw [maskV_apply]
  show Scalar.select (winW i j) (s (ix4 b H i j)) (Ideal.ofBits .f32 0xFF800000#32) = _
  rw [ofBits_bot]
  rfl

/-- The exponential at an index, the row's maximum taken off. -/
theorem expV_apply (s : FVec Ideal S2x16x256x256 .f32) (b : Fin 2) (H : Fin 16) (i j : Fin 256) :
    expV s (ix4 b H i j) = Ideal.exp (s (ix4 b H i j) - Finset.univ.fold max ⊥ fun j => s (ix4 b H i j)) := by
  pointwise [expV]
  rw [ofBits_bot]

/-- A weight at an index: the exponential divided by the sum of its row. -/
theorem weightV_apply (e : FVec Ideal S2x16x256x256 .f32) (b : Fin 2) (H : Fin 16) (i j : Fin 256) :
    weightV e (ix4 b H i j) = Ideal.div (e (ix4 b H i j)) (∑ j : Fin 256, e (ix4 b H i j)) := by
  pointwise [weightV]
  rw [keepV_apply]
  rfl

/-- The reference's result at an index: over all columns, the context of the column's head against the output weights. -/
theorem outV_apply (w : FVec Ideal S2x16x256x256 .f32) (v : FVec Ideal S2x256x16x64 .f32) (wo : FVec Ideal S1024x512 .f32)
    (b : Fin 2) (i : Fin 256) (n : Fin 512) :
    outV w v wo (ix3 b i n) = ∑ t : Fin 1024, (∑ j : Fin 256, v (ix4 b j ⟨t.val / 64, by omega⟩ ⟨t.val % 64, by omega⟩)
      * w (ix4 b ⟨t.val / 64, by omega⟩ i j)) * wo (ix2 t n) := by
  pointwise [outV]

/-- The weights of a row, from its scores. -/
theorem row_apply (s : FVec Ideal S2x16x256x256 .f32) (b : Fin 2) (H : Fin 16) (i j : Fin 256) :
    weightV (expV (maskedV s)) (ix4 b H i j)
      = Ideal.div (shifted (Win i) (fun j => s (ix4 b H i j)) j) (∑ j, shifted (Win i) (fun j => s (ix4 b H i j)) j) := by
  have h : ∀ j, expV (maskedV s) (ix4 b H i j) = shifted (Win i) (fun j => s (ix4 b H i j)) j := fun j => by
    rw [expV_apply]
    simp only [maskedV_apply]
    rfl
  rw [weightV_apply]
  simp only [h]

end Cert.ReferenceIdealProof

end
-- ==== Proof.Value.Equal.lean ====
/- The kernel's result and the reference's are one array: the heads of the four devices are the reference's sixteen, each device
   holding four, and the sum over the devices completes the sum over the heads. -/
module

public import proofs.«01_k».proof.Proof.Value.Sum
public import proofs.«01_k».proof.Proof.Value.Host
public import proofs.«01_k».proof.Proof.Value.Reference

@[expose] public section

noncomputable section

namespace Cert.AttnEqual

open Idealize.ShloMosaic
open Idealize.ShloMosaic.TcCoe
open Cert.Attn
open Cert.KernelIdeal (S2x256x512 S512x256 S2x256x16x64 S256x512 nD)
open Cert.KernelIdealProof (Ins partner)

set_option maxRecDepth 16384

/-- The whole arrays: the queries' weights in their four column blocks, the output weights in their four row blocks. -/
abbrev SWq : Shape := ⟨2, ![512, 1024]⟩
abbrev SWo : Shape := ⟨2, ![1024, 512]⟩

/-- Column `t` of device `c`'s block, among all the columns. -/
def col (c : Fin 4) (t : Fin 256) : Fin 1024 := ⟨256 * c.val + t.val, by omega⟩

/-- Head `h` of device `c`, among all the heads. -/
def head (c h : Fin 4) : Fin 16 := ⟨4 * c.val + h.val, by omega⟩

/-- Entry `d` of head `h`, among a device's columns. -/
def lane (h : Fin 4) (d : Fin 64) : Fin 256 := ⟨64 * h.val + d.val, by omega⟩

/-- A device's column block of an array, read at an index. -/
theorem colBlock_apply (w : FVec Ideal SWq .f32) (c : Fin 4) (h : Layout.Tiles ⟨2, ![512, 256]⟩ SWq 1 4) (k : Fin 512) (t : Fin 256) :
    Layout.block ⟨2, ![512, 256]⟩ SWq 1 4 c w h (ix2 k t) = w (ix2 k (col c t)) := by
  rw [Layout.block_apply]
  refine congrArg w (funext fun a => Fin.ext ?_)
  match a with
  | 0 => rfl
  | 1 => exact congrArg (· + t.val) (Nat.mul_comm c.val 256)

/-- A device's row block of an array, read at an index. -/
theorem rowBlock_apply (w : FVec Ideal SWo .f32) (c : Fin 4) (h : Layout.Tiles ⟨2, ![256, 512]⟩ SWo 0 4) (t : Fin 256) (n : Fin 512) :
    Layout.block ⟨2, ![256, 512]⟩ SWo 0 4 c w h (ix2 t n) = w (ix2 (col c t) n) := by
  rw [Layout.block_apply]
  refine congrArg w (funext fun a => Fin.ext ?_)
  match a with
  | 0 => exact congrArg (· + t.val) (Nat.mul_comm c.val 256)
  | 1 => rfl

/-- The factor of the scores is real. -/
theorem scale_real : IsReal (Ideal.ofBits .f32 0x3E000000#32) := ⟨8388608 * (2 ^ 26)⁻¹, by
  rw [EReal.coe_mul]
  simp [Ideal.ofBits, Ideal.ieee]⟩

/-- The numerator of the normalisation is one. -/
theorem ofBits_one : Ideal.ofBits .f32 0x3F800000#32 = 1 := by
  have h : ((8388608 : ℝ) : EReal) * (((2 ^ 23 : ℝ)⁻¹ : ℝ) : EReal) = 1 := by
    rw [← EReal.coe_mul, ← EReal.coe_one]
    norm_num
  simpa [Ideal.ofBits, Ideal.ieee] using h

section
variable (x : FVec Ideal S2x256x512 .f32) (wq : FVec Ideal SWq .f32) (k v : FVec Ideal S2x256x16x64 .f32) (wo : FVec Ideal SWo .f32)

/-- The reference's scores. -/
abbrev scores := ReferenceIdealProof.scoreV x wq k
/-- The reference's weights. -/
abbrev weights := ReferenceIdealProof.weightV (ReferenceIdealProof.expV (ReferenceIdealProof.maskedV (scores x wq k)))

/-- The operands of the four devices are their parts of the whole arrays. -/
structure Parts (G : Dev nD → Ins Ideal) : Prop where
  x : ∀ c b i l, (G c).x (ix3 b i l) = x (ix3 b i l)
  wq : ∀ c l t, (G c).wq (ix2 l t) = wq (ix2 l (col c t))
  k : ∀ c h b j d, (G c).k (ix4 h b j d) = k (ix4 b j (head c h) d)
  v : ∀ c h b j d, (G c).v (ix4 h b j d) = v (ix4 b j (head c h) d)
  wo : ∀ c t n, (G c).wo (ix2 t n) = wo (ix2 (col c t) n)

/-- What the scores are made of is real. -/
structure Reals : Prop where
  x : ∀ b i l, IsReal (x (ix3 b i l))
  wq : ∀ l t, IsReal (wq (ix2 l t))
  k : ∀ b j h d, IsReal (k (ix4 b j h d))

variable {x wq k v wo}

/-- The scores of a real input are real. -/
theorem scores_real (hr : Reals x wq k) (b : Fin 2) (H : Fin 16) (i j : Fin 256) : IsReal (scores x wq k (ix4 b H i j)) := by
  rw [scores, ReferenceIdealProof.scoreV_apply]
  exact (IsReal.sum _ fun d => (IsReal.sum _ fun l => (hr.x b i l).mul (hr.wq l _)).mul (hr.k b j H d)).mul scale_real

variable {G : Dev nD → Ins Ideal} (hG : Parts x wq k v wo G)
include hG

/-- A device's scores of a head are the reference's of that head. -/
theorem score_eq (c : Dev nD) (h : Fin 4) (b : Fin 2) (i j : Fin 256) :
    KernelIdealProof.scoreV ((G c).qV b) h ((G c).kV h b) (ix2 i j) = scores x wq k (ix4 b (head c h) i j) := by
  rw [KernelIdealProof.scoreV_apply, scores, ReferenceIdealProof.scoreV_apply]
  refine congrArg (· * _) (Finset.sum_congr rfl fun d _ => ?_)
  rw [Ins.qV_apply, Ins.kV_apply, hG.k]
  refine congrArg (· * _) (Finset.sum_congr rfl fun l _ => ?_)
  rw [hG.x, hG.wq]
  refine congrArg (fun t => _ * wq (ix2 l t)) (Fin.ext ?_)
  show 256 * c.val + (64 * h.val + d.val) = 64 * (4 * c.val + h.val) + d.val
  omega

/-- A device's context of a head is the reference's of that head. -/
theorem ctx_eq (hr : Reals x wq k) (c : Dev nD) (h : Fin 4) (b : Fin 2) (i : Fin 256) (d : Fin 64) :
    (G c).cV h b (ix2 i d) = ∑ j : Fin 256, v (ix4 b j (head c h) d) * weights x wq k (ix4 b (head c h) i j) := by
  unfold Ins.cV
  rw [KernelIdealProof.ctxV_apply, ofBits_one]
  simp only [KernelIdealProof.weightV_apply, score_eq hG, Ins.vV_apply, hG.v, ReferenceIdealProof.row_apply]
  exact row (Win i) _ _ (fun j => scores_real hr b _ i j) (win_self i)

/-- The sum of the devices' partial products is the reference's result. -/
theorem sum_eq (hr : Reals x wq k) (h b : Fin 2) (i n : Fin 256) :
    ∑ c, (G c).pV h b (ix2 i n) = ReferenceIdealProof.outV (weights x wq k) v wo (ix3 b i ⟨256 * h.val + n.val, by omega⟩) := by
  rw [ReferenceIdealProof.outV_apply, KernelIdealProof.sum_blocks 4 256 _ (fun c t => (col c t).isLt)]
  refine Finset.sum_congr rfl fun c _ => ?_
  rw [KernelIdealProof.sum_blocks 4 64 _ (fun e d => (lane e d).isLt)]
  refine (KernelIdealProof.partV_apply (fun e => (G c).cV e b) _ i n).trans ?_
  refine Finset.sum_congr rfl fun e _ => Finset.sum_congr rfl fun d _ => ?_
  have hH : (256 * c.val + (64 * e.val + d.val)) / 64 = 4 * c.val + e.val := by omega
  have hd : (256 * c.val + (64 * e.val + d.val)) % 64 = d.val := by omega
  rw [ctx_eq hG hr, Ins.woV_apply, hG.wo]
  simp only [hH, hd]
  rfl

/-- Every device's quarter of the result is the reference's there. -/
theorem quarter_eq (hr : Reals x wq k) (c : Dev nD) (h b : Fin 2) (i n : Fin 256) :
    KernelIdealProof.res G c h b (ix3 0 i n)
      = ReferenceIdealProof.outV (weights x wq k) v wo (ix3 b i ⟨256 * h.val + n.val, by omega⟩) :=
  (KernelIdealProof.res_apply G c h b i n).trans (sum_eq hG hr h b i n)

/-- The result of every device is the reference's. -/
theorem outF_eq (hr : Reals x wq k) (c : Dev nD) (f : FVec Ideal S2x256x512 .f32) :
    KernelIdealProof.outF G c f = ReferenceIdealProof.outV (weights x wq k) v wo := by
  funext i
  obtain ⟨h, b, j, rfl⟩ := KernelIdealProof.quarter_of i
  rw [KernelIdealProof.outF_apply]
  obtain ⟨p, q, rfl⟩ : ∃ p q : Fin 256, j = ix3 0 p q := ⟨⟨(j 1).val, (j 1).isLt⟩, ⟨(j 2).val, (j 2).isLt⟩, funext fun a => Fin.ext (match a with
    | 0 => Nat.lt_one_iff.mp (j 0).isLt
    | 1 => rfl
    | 2 => rfl)⟩
  rw [quarter_eq hG hr]
  refine congrArg _ (funext fun a => Fin.ext ?_)
  match a with
  | 0 => rfl
  | 1 => exact ((Nat.zero_add _).trans (Nat.one_mul _)).symm
  | 2 => exact (congrArg (256 * h.val + ·) (Nat.one_mul _)).symm

end

end Cert.AttnEqual

end
-- ==== Proof.Value.Pre.lean ====
/- The precondition read: what the scores are made of is real on every device, so it is in the whole arrays. -/
module

public import proofs.«01_k».proof.Defs
public import proofs.«01_k».proof.Proof.Value.Equal

@[expose] public section

noncomputable section

namespace Cert.AttnEqual

open Idealize.ShloMosaic
open Idealize.ShloMosaic.TcCoe
open Cert.Attn

set_option maxRecDepth 16384

/-- The side conditions of the precondition on a device's blocks. -/
theorem preFacts : Cert.Pre_finite_scores_KernelIdeal.Facts := ⟨by decide, by decide, by decide⟩

/-- The side conditions of the precondition on the whole arrays. -/
theorem preFactsWhole : Cert.Pre_finite_scores_ReferenceIdeal.Facts := ⟨by decide, by decide, by decide⟩

/-- The bound of the precondition is ⊤. -/
theorem ofBits_top : Ideal.ofBits .f32 0x7F800000#32 = ⊤ := by simp [Ideal.ofBits, Ideal.ieee]

/-- An array whose sizes are all below ⊤ is real everywhere. -/
theorem real_of_finite {S : Shape} (y : FVec Ideal S .f32) (h : (⟨0, ![]⟩ : Shape).BroadcastsInDim S (![] : Fin 0 → Fin S.rank))
    (e : cmpf .olt (Host.absf y) (broadcastInDim S ![] h (constant ⟨0, ![]⟩ .f32 0x7F800000#32)) = fun _ => 1#1) (i : S.Idx) : IsReal (y i) := by
  have e' := congrFun e i
  have e'' : Ideal.cmp .olt (max (y i) (-(y i))) (Ideal.ofBits .f32 0x7F800000#32) = 1#1 := e'
  rw [ofBits_top] at e''
  have hlt : max (y i) (-(y i)) < ⊤ := by
    by_contra hn
    rw [show Ideal.cmp .olt (max (y i) (-(y i))) ⊤ = BitVec.ofBool (decide (max (y i) (-(y i)) < ⊤)) from rfl, decide_eq_false hn] at e''
    exact absurd e'' (by decide)
  refine real_of_abs ((le_max_left _ _).trans_lt hlt) (bot_lt_iff_ne_bot.mpr fun hb => ?_)
  have hm := (le_max_right (y i) (-(y i))).trans_lt hlt
  rw [hb, EReal.neg_bot] at hm
  exact lt_irrefl _ hm

end Cert.AttnEqual

end
-- ==== Proof.Value.Algebraic.lean ====
/- The value claim: the kernel's run and the reference's end with one result. -/
module

public import proofs.«01_k».proof.Proof.Value.Pre
public import proofs.«01_k».proof.Proof.KernelIdeal.Run
public import proofs.«01_k».proof.Proof.Gen.ReferenceIdeal.Run

@[expose] public section

noncomputable section

namespace Cert.AttnEqual

open Idealize.ShloMosaic Idealize.SL.Sem
open Idealize.ShloMosaic.TcCoe
open Cert.Attn
open Cert.KernelIdeal (S2x256x512 S512x256 S2x256x16x64 S256x512 nD)

set_option maxRecDepth 16384

/-- Every column of the whole is a column of some device's block. -/
theorem col_of (t : Fin 1024) : ∃ c u, col c u = t :=
  ⟨⟨t.val / 256, by omega⟩, ⟨t.val % 256, by omega⟩, Fin.ext (Nat.div_add_mod t.val 256)⟩

/-- On inputs whose scores are real, every device's result is the reference's result. -/
theorem algebraic [Cert.Pre_finite_scores_KernelIdeal.Facts] :
    Cert.algebraic_KernelIdeal_ReferenceIdeal_pre_finite_scores_KernelIdeal := by
  intro m g m' g' hpre hm
  have hG : Parts _ _ _ _ _ (KernelIdealProof.ins m) :=
    { x := fun c b i l => congrFun ((KernelIdealProof.ins_x m c).trans (hm c).1) (ix3 b i l)
      wq := fun c l t => (congrFun ((KernelIdealProof.ins_wq m c).trans (hm c).2.1) (ix2 l t)).trans (colBlock_apply _ c _ l t)
      k := fun c h b j d => ((congrFun (KernelIdealProof.ins_k m c) (ix4 h b j d)).trans (KernelIdealProof.takeV_apply c _ h b j d)).trans
        (congrFun (hm c).2.2.1 (ix4 b j (head c h) d))
      v := fun c h b j d => ((congrFun (KernelIdealProof.ins_v m c) (ix4 h b j d)).trans (KernelIdealProof.takeV_apply c _ h b j d)).trans
        (congrFun (hm c).2.2.2.1 (ix4 b j (head c h) d))
      wo := fun c t n => (congrFun ((KernelIdealProof.ins_wo m c).trans (hm c).2.2.2.2) (ix2 t n)).trans (rowBlock_apply _ c _ t n) }
  have hr : Reals _ _ _ :=
    { x := fun b i l => (congrFun (hm 0).1 (ix3 b i l)) ▸ real_of_finite _ _ (hpre 0).1 (ix3 b i l)
      wq := fun l t => by
        obtain ⟨c, u, rfl⟩ := col_of t
        exact ((congrFun (hm c).2.1 (ix2 l u)).trans (colBlock_apply _ c _ l u)) ▸ real_of_finite _ _ (hpre c).2.1 (ix2 l u)
      k := fun b j h d => (congrFun (hm 0).2.2.1 (ix4 b j h d)) ▸ real_of_finite _ _ (hpre 0).2.2 (ix4 b j h d) }
  refine ⟨Cert.ReferenceIdeal.Value.res_main_v34 m' 0, ?_, ?_⟩
  · refine (θ_run Cert.KernelIdeal.defs _ _).mono (fun r h c => ⟨(h.1 c).1.trans ?_, (h.1 c).2⟩) (Cert.KernelIdealProof.run_main (F := Ideal) m g)
    rw [ReferenceIdealProof.res_eq]
    exact outF_eq hG hr c _
  · exact (θ_run Cert.ReferenceIdeal.defs _ _).mono (fun r h => h 0) (Cert.ReferenceIdeal.Value.run (F := Ideal) m' g')

end Cert.AttnEqual

end
-- ==== Proof.lean ====
/- The certificate: the frame claims of the three programs, the idealization's own text and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value.Algebraic

@[expose] public section

noncomputable section

namespace Cert.Proof

/-- The kernel over the extended reals on real scores: its frame, which asks nothing of the inputs. -/
theorem frame_ideal_pre [Cert.Pre_finite_scores_KernelIdeal.Facts] : Cert.quiescent_KernelIdeal_pre_finite_scores_KernelIdeal :=
  fun m g _ => frame_ideal m g trivial

/-- The reference on real scores: its frame, which asks nothing of the inputs. -/
theorem frame_reference_pre [Cert.Pre_finite_scores_ReferenceIdeal.Facts] : Cert.quiescent_ReferenceIdeal_pre_finite_scores_ReferenceIdeal :=
  fun m g _ => frame_reference m g trivial

/-- The certificate. -/
theorem claim : Cert.Claim :=
  ⟨Cert.Kernel.Gen.facts, Cert.KernelIdeal.Gen.facts, Cert.ReferenceIdeal.Gen.facts, Cert.AttnEqual.preFacts, Cert.AttnEqual.preFactsWhole,
    frame_kernel, frame_ideal, @frame_ideal_pre Cert.AttnEqual.preFacts, frame_reference,
    @frame_reference_pre Cert.AttnEqual.preFactsWhole, trivial, @Cert.AttnEqual.algebraic Cert.AttnEqual.preFacts⟩

end Cert.Proof

end
